-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.Statement Cert.KernelIdeal.S8x2x128 Cert.KernelIdeal.S8x1x128
  ∧ IdealRules.bf16_pair.Statement Cert.KernelIdeal.S16x128 Cert.KernelIdeal.S8x128
  ∧ IdealRules.named_const.Statement Cert.KernelIdeal.κ "inv_div" .f32 0x39C30C31#32 ((2688⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x5504 : Shape := ⟨3, ![16, 2048, 5504]⟩
abbrev S16x2752x2048 : Shape := ⟨3, ![16, 2752, 2048]⟩
abbrev S16x344x2048 : Shape := ⟨3, ![16, 344, 2048]⟩
abbrev S2x8x2048 : Shape := ⟨3, ![2, 8, 2048]⟩
abbrev S1x256x5504 : Shape := ⟨3, ![1, 256, 5504]⟩
abbrev S1x2752x256 : Shape := ⟨3, ![1, 2752, 256]⟩
abbrev S1x344x256 : Shape := ⟨3, ![1, 344, 256]⟩
abbrev S1x8x256 : Shape := ⟨3, ![1, 8, 256]⟩
abbrev S5504x128 : Shape := ⟨2, ![5504, 128]⟩
abbrev S344x128 : Shape := ⟨2, ![344, 128]⟩
abbrev S8x128 : Shape := ⟨2, ![8, 128]⟩
abbrev S1x128x128 : Shape := ⟨3, ![1, 128, 128]⟩
abbrev S128x128 : Shape := ⟨2, ![128, 128]⟩
abbrev S2752x128 : Shape := ⟨2, ![2752, 128]⟩
abbrev S2752x2x128 : Shape := ⟨3, ![2752, 2, 128]⟩
abbrev S8x2x128 : Shape := ⟨3, ![8, 2, 128]⟩
abbrev S8x1x128 : Shape := ⟨3, ![8, 1, 128]⟩
abbrev S16x128 : Shape := ⟨2, ![16, 128]⟩
abbrev S128 : Shape := ⟨1, ![128]⟩
abbrev S1x128 : Shape := ⟨2, ![1, 128]⟩
abbrev S1x8x128 : Shape := ⟨3, ![1, 8, 128]⟩
abbrev S1x344x128 : Shape := ⟨3, ![1, 344, 128]⟩
abbrev S64x128 : Shape := ⟨2, ![64, 128]⟩
abbrev S8x8x128 : Shape := ⟨3, ![8, 8, 128]⟩
abbrev S32x128 : Shape := ⟨2, ![32, 128]⟩
abbrev S1x32x128 : Shape := ⟨3, ![1, 32, 128]⟩
abbrev S16x2048x2752 : Shape := ⟨3, ![16, 2048, 2752]⟩
abbrev S16x2048x344 : Shape := ⟨3, ![16, 2048, 344]⟩
abbrev S16x2048 : Shape := ⟨2, ![16, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16x2048x5504, .bf16⟩
  | .hbm, ⟨1, _⟩ => ⟨S16x2752x2048, .i8⟩
  | .hbm, ⟨2, _⟩ => ⟨S16x344x2048, .fp8e4m3⟩
  | .hbm, ⟨3, _⟩ => ⟨S2x8x2048, .f32⟩
  | .hbm, ⟨4, _⟩ => ⟨S16x2048x2752, .i8⟩
  | .hbm, ⟨5, _⟩ => ⟨S16x2048x344, .fp8e4m3⟩
  | .hbm, ⟨6, _⟩ => ⟨S16x2048, .f32⟩
  | .local _ .vmem, ⟨0, _⟩ => ⟨S1x256x5504, .bf16⟩
  | .local _ .vmem, ⟨1, _⟩ => ⟨S1x256x5504, .bf16⟩
  | .local _ .vmem, ⟨2, _⟩ => ⟨S1x2752x256, .i8⟩
  | .local _ .vmem, ⟨3, _⟩ => ⟨S1x2752x256, .i8⟩
  | .local _ .vmem, ⟨4, _⟩ => ⟨S1x344x256, .fp8e4m3⟩
  | .local _ .vmem, ⟨5, _⟩ => ⟨S1x344x256, .fp8e4m3⟩
  | .local _ .vmem, ⟨6, _⟩ => ⟨S1x8x256, .f32⟩
  | .local _ .vmem, ⟨7, _⟩ => ⟨S1x8x256, .f32⟩
  | .local _ .vmem, ⟨8, _⟩ => ⟨S5504x128, .bf16⟩
  | .local _ .vmem, ⟨9, _⟩ => ⟨S344x128, .f32⟩
  | .local _ .vmem, ⟨10, _⟩ => ⟨S344x128, .f32⟩
  | _, _ => ⟨S16x2048x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨3, ![2, 8, 8], ![false, false, false]⟩

@[reducible] def k0_t1_loop : Scf.Loop 32 :=
  let c0_i32 : BitVec 32 := 0#32
  let c43_i32 : BitVec 32 := 43#32
  let v1 : BitVec 32 := Scalar.addi c0_i32 c43_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v86 : BitVec 32 := Scalar.muli arg10 c128_i32
  v86
def k0_off1 (k0_t1 : Fin k0_t1_loop.trips) : Fin 3 → Nat :=
  let c0_51 : Index := 0#32
  let c0_52 : Index := 0#32
  let c0_i32 : BitVec 32 := 0#32
  let c1_i32 : BitVec 32 := 1#32
  let arg10 : BitVec 32 := Scf.iv c0_i32 c1_i32 k0_t1
  let c128_i32 : BitVec 32 := 128#32
  let v86 : BitVec 32 := Scalar.muli arg10 c128_i32
  let v87 : BitVec 32 := v86
  let v88 : Index := Scalar.indexCast v87
  ![0, 0, v88.toNat]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_53 : BitVec 32 := 128#32
  let v92 : BitVec 32 := Scalar.muli arg10 c128_i32_53
  v92
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32_53 : BitVec 32 := 128#32
  let v92 : BitVec 32 := Scalar.muli arg10 c128_i32_53
  let v93 : BitVec 32 := v92
  let v94 : Index := Scalar.indexCast v93
  let c0_54 : Index := 0#32
  ![v94.toNat, 0]
def k0_off3 (k0_t1 : Fin k0_t1_loop.trips) (c0_i32_55 : BitVec 32) : Fin 3 → Nat :=
  let c0_i32 : BitVec 32 := 0#32
  let c1_i32 : BitVec 32 := 1#32
  let arg10 : BitVec 32 := Scf.iv c0_i32 c1_i32 k0_t1
  let c64_i32 : BitVec 32 := 64#32
  let v98 : BitVec 32 := Scalar.muli arg10 c64_i32
  let v99 : BitVec 32 := Scalar.addi v98 c0_i32_55
  let v101 : Index := Scalar.indexCast v99
  let c0_56 : Index := 0#32
  ![v101.toNat, 0, 0]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v169 : BitVec 32 := Scalar.muli arg10 c8_i32
  v169
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v169 : BitVec 32 := Scalar.muli arg10 c8_i32
  let v170 : BitVec 32 := v169
  let v171 : Index := Scalar.indexCast v170
  let c0_72 : Index := 0#32
  ![v171.toNat, 0]
@[reducible] def k0_t2_loop : Scf.Loop 32 :=
  let c0_i32_20 : BitVec 32 := 0#32
  let c86_i32 : BitVec 32 := 86#32
  let v42 : BitVec 32 := Scalar.addi c0_i32_20 c86_i32
  let c1_i32_21 : BitVec 32 := 1#32
  ⟨c0_i32_20, v42, c1_i32_21⟩
def k0_mult4 (k0_t2 : Fin k0_t2_loop.trips) : BitVec 32 :=
  let c0_i32_20 : BitVec 32 := 0#32
  let c1_i32_21 : BitVec 32 := 1#32
  let arg10 : BitVec 32 := Scf.iv c0_i32_20 c1_i32_21 k0_t2
  let c4_i32 : BitVec 32 := 4#32
  let v86 : BitVec 32 := Scalar.muli arg10 c4_i32
  let c0_i32_51 : BitVec 32 := 0#32
  let v87 : BitVec 32 := Scalar.addi v86 c0_i32_51
  let c16_i32 : BitVec 32 := 16#32
  let v88 : BitVec 32 := Scalar.muli v87 c16_i32
  v88
def k0_off5 (k0_t2 : Fin k0_t2_loop.trips) (c0_i32_51 : BitVec 32) : Fin 2 → Nat :=
  let c0_i32_20 : BitVec 32 := 0#32
  let c1_i32_21 : BitVec 32 := 1#32
  let arg10 : BitVec 32 := Scf.iv c0_i32_20 c1_i32_21 k0_t2
  let c4_i32 : BitVec 32 := 4#32
  let v86 : BitVec 32 := Scalar.muli arg10 c4_i32
  let v87 : BitVec 32 := Scalar.addi v86 c0_i32_51
  let c16_i32 : BitVec 32 := 16#32
  let v88 : BitVec 32 := Scalar.muli v87 c16_i32
  let v89 : BitVec 32 := v88
  let v90 : Index := Scalar.indexCast v89
  let c0_52 : Index := 0#32
  ![v90.toNat, 0]
def k0_off6 (k0_t2 : Fin k0_t2_loop.trips) (c0_i32_51 : BitVec 32) : Fin 2 → Nat :=
  let c0_i32_20 : BitVec 32 := 0#32
  let c1_i32_21 : BitVec 32 := 1#32
  let arg10 : BitVec 32 := Scf.iv c0_i32_20 c1_i32_21 k0_t2
  let c4_i32 : BitVec 32 := 4#32
  let v86 : BitVec 32 := Scalar.muli arg10 c4_i32
  let v87 : BitVec 32 := Scalar.addi v86 c0_i32_51
  let v93 : Index := Scalar.indexCast v87
  let c0_53 : Index := 0#32
  ![v93.toNat, 0]
def k0_mult5 (k0_t2 : Fin k0_t2_loop.trips) : BitVec 32 :=
  let c0_i32_20 : BitVec 32 := 0#32
  let c1_i32_21 : BitVec 32 := 1#32
  let arg10 : BitVec 32 := Scf.iv c0_i32_20 c1_i32_21 k0_t2
  let c4_i32_56 : BitVec 32 := 4#32
  let v101 : BitVec 32 := Scalar.muli arg10 c4_i32_56
  let c1_i32_57 : BitVec 32 := 1#32
  let v102 : BitVec 32 := Scalar.addi v101 c1_i32_57
  let c16_i32_58 : BitVec 32 := 16#32
  let v103 : BitVec 32 := Scalar.muli v102 c16_i32_58
  v103
def k0_mult6 (k0_t2 : Fin k0_t2_loop.trips) : BitVec 32 :=
  let c0_i32_20 : BitVec 32 := 0#32
  let c1_i32_21 : BitVec 32 := 1#32
  let arg10 : BitVec 32 := Scf.iv c0_i32_20 c1_i32_21 k0_t2
  let c4_i32_63 : BitVec 32 := 4#32
  let v116 : BitVec 32 := Scalar.muli arg10 c4_i32_63
  let c2_i32 : BitVec 32 := 2#32
  let v117 : BitVec 32 := Scalar.addi v116 c2_i32
  let c16_i32_64 : BitVec 32 := 16#32
  let v118 : BitVec 32 := Scalar.muli v117 c16_i32_64
  v118
def k0_mult7 (k0_t2 : Fin k0_t2_loop.trips) : BitVec 32 :=
  let c0_i32_20 : BitVec 32 := 0#32
  let c1_i32_21 : BitVec 32 := 1#32
  let arg10 : BitVec 32 := Scf.iv c0_i32_20 c1_i32_21 k0_t2
  let c4_i32_69 : BitVec 32 := 4#32
  let v131 : BitVec 32 := Scalar.muli arg10 c4_i32_69
  let c3_i32 : BitVec 32 := 3#32
  let v132 : BitVec 32 := Scalar.addi v131 c3_i32
  let c16_i32_70 : BitVec 32 := 16#32
  let v133 : BitVec 32 := Scalar.muli v132 c16_i32_70
  v133
def k0_mult8 (k0_t2 : Fin k0_t2_loop.trips) : BitVec 32 :=
  let c0_i32_20 : BitVec 32 := 0#32
  let c1_i32_21 : BitVec 32 := 1#32
  let arg10 : BitVec 32 := Scf.iv c0_i32_20 c1_i32_21 k0_t2
  let c32_i32 : BitVec 32 := 32#32
  let v227 : BitVec 32 := Scalar.muli arg10 c32_i32
  v227
def k0_off7 (k0_t2 : Fin k0_t2_loop.trips) : Fin 3 → Nat :=
  let c0_89 : Index := 0#32
  let c0_i32_20 : BitVec 32 := 0#32
  let c1_i32_21 : BitVec 32 := 1#32
  let arg10 : BitVec 32 := Scf.iv c0_i32_20 c1_i32_21 k0_t2
  let c32_i32 : BitVec 32 := 32#32
  let v227 : BitVec 32 := Scalar.muli arg10 c32_i32
  let v228 : BitVec 32 := v227
  let v229 : Index := Scalar.indexCast v228
  let c0_90 : Index := 0#32
  ![0, v229.toNat, 0]
@[reducible] def k0_t3_loop : Scf.Loop 32 :=
  let c0_i32_24 : BitVec 32 := 0#32
  let c43_i32_25 : BitVec 32 := 43#32
  let v44 : BitVec 32 := Scalar.addi c0_i32_24 c43_i32_25
  let c1_i32_26 : BitVec 32 := 1#32
  ⟨c0_i32_24, v44, c1_i32_26⟩
def k0_mult9 (k0_t3 : Fin k0_t3_loop.trips) : BitVec 32 :=
  let c0_i32_24 : BitVec 32 := 0#32
  let c1_i32_26 : BitVec 32 := 1#32
  let arg10 : BitVec 32 := Scf.iv c0_i32_24 c1_i32_26 k0_t3
  let c128_i32 : BitVec 32 := 128#32
  let v86 : BitVec 32 := Scalar.muli arg10 c128_i32
  v86
def k0_off8 (k0_t3 : Fin k0_t3_loop.trips) : Fin 3 → Nat :=
  let c0_51 : Index := 0#32
  let c128_52 : Index := 128#32
  let c0_i32_24 : BitVec 32 := 0#32
  let c1_i32_26 : BitVec 32 := 1#32
  let arg10 : BitVec 32 := Scf.iv c0_i32_24 c1_i32_26 k0_t3
  let c128_i32 : BitVec 32 := 128#32
  let v86 : BitVec 32 := Scalar.muli arg10 c128_i32
  let v87 : BitVec 32 := v86
  let v88 : Index := Scalar.indexCast v87
  ![0, 128, v88.toNat]
def k0_mult10 (k0_t3 : Fin k0_t3_loop.trips) : BitVec 32 :=
  let c0_i32_24 : BitVec 32 := 0#32
  let c1_i32_26 : BitVec 32 := 1#32
  let arg10 : BitVec 32 := Scf.iv c0_i32_24 c1_i32_26 k0_t3
  let c128_i32_53 : BitVec 32 := 128#32
  let v92 : BitVec 32 := Scalar.muli arg10 c128_i32_53
  v92
def k0_off9 (k0_t3 : Fin k0_t3_loop.trips) : Fin 2 → Nat :=
  let c0_i32_24 : BitVec 32 := 0#32
  let c1_i32_26 : BitVec 32 := 1#32
  let arg10 : BitVec 32 := Scf.iv c0_i32_24 c1_i32_26 k0_t3
  let c128_i32_53 : BitVec 32 := 128#32
  let v92 : BitVec 32 := Scalar.muli arg10 c128_i32_53
  let v93 : BitVec 32 := v92
  let v94 : Index := Scalar.indexCast v93
  let c0_54 : Index := 0#32
  ![v94.toNat, 0]
def k0_off10 (k0_t3 : Fin k0_t3_loop.trips) (c0_i32_55 : BitVec 32) : Fin 3 → Nat :=
  let c0_i32_24 : BitVec 32 := 0#32
  let c1_i32_26 : BitVec 32 := 1#32
  let arg10 : BitVec 32 := Scf.iv c0_i32_24 c1_i32_26 k0_t3
  let c64_i32 : BitVec 32 := 64#32
  let v98 : BitVec 32 := Scalar.muli arg10 c64_i32
  let v99 : BitVec 32 := Scalar.addi v98 c0_i32_55
  let v101 : Index := Scalar.indexCast v99
  let c0_56 : Index := 0#32
  ![v101.toNat, 0, 0]
def k0_mult11 (k0_t3 : Fin k0_t3_loop.trips) : BitVec 32 :=
  let c0_i32_24 : BitVec 32 := 0#32
  let c1_i32_26 : BitVec 32 := 1#32
  let arg10 : BitVec 32 := Scf.iv c0_i32_24 c1_i32_26 k0_t3
  let c8_i32 : BitVec 32 := 8#32
  let v169 : BitVec 32 := Scalar.muli arg10 c8_i32
  v169
def k0_off11 (k0_t3 : Fin k0_t3_loop.trips) : Fin 2 → Nat :=
  let c0_i32_24 : BitVec 32 := 0#32
  let c1_i32_26 : BitVec 32 := 1#32
  let arg10 : BitVec 32 := Scf.iv c0_i32_24 c1_i32_26 k0_t3
  let c8_i32 : BitVec 32 := 8#32
  let v169 : BitVec 32 := Scalar.muli arg10 c8_i32
  let v170 : BitVec 32 := v169
  let v171 : Index := Scalar.indexCast v170
  let c0_72 : Index := 0#32
  ![v171.toNat, 0]
@[reducible] def k0_t4_loop : Scf.Loop 32 :=
  let c0_i32_47 : BitVec 32 := 0#32
  let c86_i32_48 : BitVec 32 := 86#32
  let v85 : BitVec 32 := Scalar.addi c0_i32_47 c86_i32_48
  let c1_i32_49 : BitVec 32 := 1#32
  ⟨c0_i32_47, v85, c1_i32_49⟩
def k0_mult12 (k0_t4 : Fin k0_t4_loop.trips) : BitVec 32 :=
  let c0_i32_47 : BitVec 32 := 0#32
  let c1_i32_49 : BitVec 32 := 1#32
  let arg10 : BitVec 32 := Scf.iv c0_i32_47 c1_i32_49 k0_t4
  let c4_i32 : BitVec 32 := 4#32
  let v86 : BitVec 32 := Scalar.muli arg10 c4_i32
  let c0_i32_51 : BitVec 32 := 0#32
  let v87 : BitVec 32 := Scalar.addi v86 c0_i32_51
  let c16_i32 : BitVec 32 := 16#32
  let v88 : BitVec 32 := Scalar.muli v87 c16_i32
  v88
def k0_off12 (k0_t4 : Fin k0_t4_loop.trips) (c0_i32_51 : BitVec 32) : Fin 2 → Nat :=
  let c0_i32_47 : BitVec 32 := 0#32
  let c1_i32_49 : BitVec 32 := 1#32
  let arg10 : BitVec 32 := Scf.iv c0_i32_47 c1_i32_49 k0_t4
  let c4_i32 : BitVec 32 := 4#32
  let v86 : BitVec 32 := Scalar.muli arg10 c4_i32
  let v87 : BitVec 32 := Scalar.addi v86 c0_i32_51
  let c16_i32 : BitVec 32 := 16#32
  let v88 : BitVec 32 := Scalar.muli v87 c16_i32
  let v89 : BitVec 32 := v88
  let v90 : Index := Scalar.indexCast v89
  let c0_52 : Index := 0#32
  ![v90.toNat, 0]
def k0_off13 (k0_t4 : Fin k0_t4_loop.trips) (c0_i32_51 : BitVec 32) : Fin 2 → Nat :=
  let c0_i32_47 : BitVec 32 := 0#32
  let c1_i32_49 : BitVec 32 := 1#32
  let arg10 : BitVec 32 := Scf.iv c0_i32_47 c1_i32_49 k0_t4
  let c4_i32 : BitVec 32 := 4#32
  let v86 : BitVec 32 := Scalar.muli arg10 c4_i32
  let v87 : BitVec 32 := Scalar.addi v86 c0_i32_51
  let v93 : Index := Scalar.indexCast v87
  let c0_53 : Index := 0#32
  ![v93.toNat, 0]
def k0_mult13 (k0_t4 : Fin k0_t4_loop.trips) : BitVec 32 :=
  let c0_i32_47 : BitVec 32 := 0#32
  let c1_i32_49 : BitVec 32 := 1#32
  let arg10 : BitVec 32 := Scf.iv c0_i32_47 c1_i32_49 k0_t4
  let c4_i32_56 : BitVec 32 := 4#32
  let v101 : BitVec 32 := Scalar.muli arg10 c4_i32_56
  let c1_i32_57 : BitVec 32 := 1#32
  let v102 : BitVec 32 := Scalar.addi v101 c1_i32_57
  let c16_i32_58 : BitVec 32 := 16#32
  let v103 : BitVec 32 := Scalar.muli v102 c16_i32_58
  v103
def k0_mult14 (k0_t4 : Fin k0_t4_loop.trips) : BitVec 32 :=
  let c0_i32_47 : BitVec 32 := 0#32
  let c1_i32_49 : BitVec 32 := 1#32
  let arg10 : BitVec 32 := Scf.iv c0_i32_47 c1_i32_49 k0_t4
  let c4_i32_63 : BitVec 32 := 4#32
  let v116 : BitVec 32 := Scalar.muli arg10 c4_i32_63
  let c2_i32 : BitVec 32 := 2#32
  let v117 : BitVec 32 := Scalar.addi v116 c2_i32
  let c16_i32_64 : BitVec 32 := 16#32
  let v118 : BitVec 32 := Scalar.muli v117 c16_i32_64
  v118
def k0_mult15 (k0_t4 : Fin k0_t4_loop.trips) : BitVec 32 :=
  let c0_i32_47 : BitVec 32 := 0#32
  let c1_i32_49 : BitVec 32 := 1#32
  let arg10 : BitVec 32 := Scf.iv c0_i32_47 c1_i32_49 k0_t4
  let c4_i32_69 : BitVec 32 := 4#32
  let v131 : BitVec 32 := Scalar.muli arg10 c4_i32_69
  let c3_i32 : BitVec 32 := 3#32
  let v132 : BitVec 32 := Scalar.addi v131 c3_i32
  let c16_i32_70 : BitVec 32 := 16#32
  let v133 : BitVec 32 := Scalar.muli v132 c16_i32_70
  v133
def k0_mult16 (k0_t4 : Fin k0_t4_loop.trips) : BitVec 32 :=
  let c0_i32_47 : BitVec 32 := 0#32
  let c1_i32_49 : BitVec 32 := 1#32
  let arg10 : BitVec 32 := Scf.iv c0_i32_47 c1_i32_49 k0_t4
  let c32_i32 : BitVec 32 := 32#32
  let v227 : BitVec 32 := Scalar.muli arg10 c32_i32
  v227
def k0_off14 (k0_t4 : Fin k0_t4_loop.trips) : Fin 3 → Nat :=
  let c0_89 : Index := 0#32
  let c0_i32_47 : BitVec 32 := 0#32
  let c1_i32_49 : BitVec 32 := 1#32
  let arg10 : BitVec 32 := Scf.iv c0_i32_47 c1_i32_49 k0_t4
  let c32_i32 : BitVec 32 := 32#32
  let v227 : BitVec 32 := Scalar.muli arg10 c32_i32
  let v228 : BitVec 32 := v227
  let v229 : Index := Scalar.indexCast v228
  let c128_90 : Index := 128#32
  ![0, v229.toNat, 128]
def k0_cond1 (i : grid0.Coords) : BitVec 1 :=
  let arg2 : BitVec 32 := BitVec.ofNat 32 (i 2).val
  let c0_i32_5 : BitVec 32 := 0#32
  let v13 : BitVec 1 := Scalar.cmpi .eq arg2 c0_i32_5
  let v14 : BitVec 32 := Scalar.extui v13
  let c0_i32_6 : BitVec 32 := 0#32
  let v15 : BitVec 1 := Scalar.cmpi .ne v14 c0_i32_6
  v15

def k0_cond2 (i : grid0.Coords) : BitVec 1 :=
  let arg2 : BitVec 32 := BitVec.ofNat 32 (i 2).val
  let c0_i32_7 : BitVec 32 := 0#32
  let v16 : BitVec 1 := Scalar.cmpi .sgt arg2 c0_i32_7
  let v17 : BitVec 32 := Scalar.extui v16
  let c0_i32_8 : BitVec 32 := 0#32
  let v18 : BitVec 1 := Scalar.cmpi .ne v17 c0_i32_8
  v18

def k0_cond3 (i : grid0.Coords) : BitVec 1 :=
  let arg2 : BitVec 32 := BitVec.ofNat 32 (i 2).val
  let c0_i32_32 : BitVec 32 := 0#32
  let v56 : BitVec 1 := Scalar.cmpi .eq arg2 c0_i32_32
  let v57 : BitVec 32 := Scalar.extui v56
  let c0_i32_33 : BitVec 32 := 0#32
  let v58 : BitVec 1 := Scalar.cmpi .ne v57 c0_i32_33
  v58

def k0_cond4 (i : grid0.Coords) : BitVec 1 :=
  let arg2 : BitVec 32 := BitVec.ofNat 32 (i 2).val
  let c0_i32_34 : BitVec 32 := 0#32
  let v59 : BitVec 1 := Scalar.cmpi .sgt arg2 c0_i32_34
  let v60 : BitVec 32 := Scalar.extui v59
  let c0_i32_35 : BitVec 32 := 0#32
  let v61 : BitVec 1 := Scalar.cmpi .ne v60 c0_i32_35
  v61

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x256x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2752x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x344x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelIdeal.lean ====
variable {F : FTy → Type} [FloatOps F] [Named F]
def κ : String → Option EReal := fun
  | "inv_div" => some ((2688⁻¹ : ℝ) : EReal)
  | _ => none
-- ==== ReferenceIdeal.lean ====
abbrev S16x2048x5504 : Shape := ⟨3, ![16, 2048, 5504]⟩
abbrev S16x2048x2752 : Shape := ⟨3, ![16, 2048, 2752]⟩
abbrev S16x2048x344 : Shape := ⟨3, ![16, 2048, 344]⟩
abbrev S16x2048 : Shape := ⟨2, ![16, 2048]⟩
abbrev S16x2048x344x16 : Shape := ⟨4, ![16, 2048, 344, 16]⟩
abbrev S16x2048x1 : Shape := ⟨3, ![16, 2048, 1]⟩
abbrev S16x2048x344x1 : Shape := ⟨4, ![16, 2048, 344, 1]⟩
abbrev S16x2048x344x8x2 : Shape := ⟨5, ![16, 2048, 344, 8, 2]⟩
abbrev S16x2048x344x8x1 : Shape := ⟨5, ![16, 2048, 344, 8, 1]⟩
abbrev S16x2048x344x8 : Shape := ⟨4, ![16, 2048, 344, 8]⟩

abbrev nBuf : Space → Nat
  | .hbm => 4
  | .vmem => 4
  | .smem => 0
  | _ => 0

abbrev bufTy : (tb : Table) → Fin (tcTables nBuf tb) → BufTy
  | .hbm, ⟨0, _⟩ => ⟨S16x2048x5504, .bf16⟩
  | .hbm, ⟨1, _⟩ => ⟨S16x2048x2752, .i8⟩
  | .hbm, ⟨2, _⟩ => ⟨S16x2048x344, .fp8e4m3⟩
  | .hbm, ⟨3, _⟩ => ⟨S16x2048, .f32⟩
  | .local _ .vmem, ⟨0, _⟩ => ⟨S16x2048x5504, .bf16⟩
  | .local _ .vmem, ⟨1, _⟩ => ⟨S16x2048x2752, .i8⟩
  | .local _ .vmem, ⟨2, _⟩ => ⟨S16x2048x344, .fp8e4m3⟩
  | .local _ .vmem, ⟨3, _⟩ => ⟨S16x2048, .f32⟩
  | _, _ => ⟨S16x2048x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x2048x5504 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048x2752 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048x344 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelLoops.lean ====
/-
  The two chunk loops of the kernel `Kernel`, by invariants that name no scratch contents.

  Each of the two column passes of the body runs a counted loop over the 43 chunks of 128 hidden elements: a trip
  reads the input block, overwrites its chunk of the transposed scratch and its eight rows of the scale scratch, and
  carries the running row maximum. For termination and the absence of faults it is enough that the input block is
  held at fixed contents and the two scratch buffers at some contents before every trip.
-/
module

public import proofs.«01_k».proof.Proof.Gen.Kernel.Skeleton
public import proofs.«01_k».proof.Proof.Gen.Kernel.Loops
public import proofs.«01_k».proof.Proof.Gen.Kernel.Frame
public import Idealize.ShloMosaic.Lib.Tactic

@[expose] public section

set_option maxRecDepth 8192

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame kit. -/
local notation "𝕄G" => MT nD τ sig Unit (Elt F) ℕ (UR sig nD τ) ℕ

/-- What a chunk loop holds before a trip: the input block at `X`, the transposed scratch and the scale scratch at
    some contents. -/
abbrev chunkInv (c : Dev nD) (arg3 : Memref sig .tc .vmem S1x256x5504 .bf16) (arg7 : Memref sig .tc .vmem S5504x128 .bf16) (arg8 : Memref sig .tc .vmem S344x128 .f32)
    (X : BufTy.Contents (Elt F) arg3.view.ty) : sProp 𝕄G :=
  iprop((arg3.view.loc (c : Thread nD τ) ↦[arg3.view.set]{fullShare} X)
    ∗ (∃ f, (arg7.view.loc (c : Thread nD τ) ↦[arg7.view.set]{fullShare} f))
    ∗ (∃ f, (arg8.view.loc (c : Thread nD τ) ↦[arg8.view.set]{fullShare} f)))

set_option maxHeartbeats 4000000 in
/-- One trip of the first chunk loop keeps `chunkInv`. -/
theorem trip_t1 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole)
    (X : BufTy.Contents (Elt F) arg3.view.ty) (k : Fin k0_t1_loop.trips) (acc : FVec F S8x128 .f32) :
    chunkInv (F := F) c arg3 arg7 arg8 X
      ⊢ wp frame (wpE (defs₀ (F := F)) Variants.none (c : Thread nD τ) none) Set.univ
          (Cert.Kernel.Gen.k0_t1_body (F := F) i arg3 harg3 arg4 harg4 arg5 harg5 arg6 harg6 arg7 harg7 arg8 harg8 arg9 harg9 k acc)
          (fun _ => chunkInv (F := F) c arg3 arg7 arg8 X) := by
  have hk : k.val < 43 := Nat.lt_of_lt_of_le k.isLt Cert.Kernel.Gen.k0_t1_abs.2.1
  unfold Cert.Kernel.Gen.k0_t1_body
  iintro ⟨H3, ⟨%f7, H7⟩, ⟨%f8, H8⟩⟩
  sl_exec
  sl_step
  isplitl [H3]; · iexact H3
  isplitl [H7]; · iexists _; iexact H7
  iexists _; iexact H8

set_option warn.classDefReducibility false in
/-- The first chunk loop by `chunkInv`. -/
@[sl_loop] def loopInv_k0_t1 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (init : FVec F S8x128 .f32)
    (X : BufTy.Contents (Elt F) arg3.view.ty) :
    Cert.Kernel.Gen.LoopInvTy_k0_t1 (F := F) Unit ℕ (UR sig nD τ) ℕ Variants.none c none Set.univ i arg3 harg3 arg4 harg4 arg5 harg5 arg6 harg6 arg7 harg7 arg8 harg8 arg9 harg9 init where
  inv := fun _ _ => chunkInv (F := F) c arg3 arg7 arg8 X
  step := fun k acc => trip_t1 c i arg3 harg3 arg4 harg4 arg5 harg5 arg6 harg6 arg7 harg7 arg8 harg8 arg9 harg9 X k acc

set_option maxHeartbeats 4000000 in
/-- One trip of the second chunk loop keeps `chunkInv`. -/
theorem trip_t3 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (arg2 : BitVec 32) (v32 : FVec F S344x128 .f32) (cst_15 : F .f32)
    (X : BufTy.Contents (Elt F) arg3.view.ty) (k : Fin k0_t3_loop.trips) (acc : FVec F S8x128 .f32) :
    chunkInv (F := F) c arg3 arg7 arg8 X
      ⊢ wp frame (wpE (defs₀ (F := F)) Variants.none (c : Thread nD τ) none) Set.univ
          (Cert.Kernel.Gen.k0_t3_body (F := F) i arg3 harg3 arg4 harg4 arg5 harg5 arg6 harg6 arg7 harg7 arg8 harg8 arg9 harg9 arg2 v32 cst_15 k acc)
          (fun _ => chunkInv (F := F) c arg3 arg7 arg8 X) := by
  have hk : k.val < 43 := Nat.lt_of_lt_of_le k.isLt Cert.Kernel.Gen.k0_t3_abs.2.1
  unfold Cert.Kernel.Gen.k0_t3_body
  iintro ⟨H3, ⟨%f7, H7⟩, ⟨%f8, H8⟩⟩
  sl_exec
  sl_step
  isplitl [H3]; · iexact H3
  isplitl [H7]; · iexists _; iexact H7
  iexists _; iexact H8

set_option warn.classDefReducibility false in
/-- The second chunk loop by `chunkInv`. -/
@[sl_loop] def loopInv_k0_t3 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (arg2 : BitVec 32) (v32 : FVec F S344x128 .f32) (cst_15 : F .f32) (init : FVec F S8x128 .f32)
    (X : BufTy.Contents (Elt F) arg3.view.ty) :
    Cert.Kernel.Gen.LoopInvTy_k0_t3 (F := F) Unit ℕ (UR sig nD τ) ℕ Variants.none c none Set.univ i arg3 harg3 arg4 harg4 arg5 harg5 arg6 harg6 arg7 harg7 arg8 harg8 arg9 harg9 arg2 v32 cst_15 init where
  inv := fun _ _ => chunkInv (F := F) c arg3 arg7 arg8 X
  step := fun k acc => trip_t3 c i arg3 harg3 arg4 harg4 arg5 harg5 arg6 harg6 arg7 harg7 arg8 harg8 arg9 harg9 arg2 v32 cst_15 X k acc

end Cert.Proof.Kernel

end
-- ==== Proof.KernelBody.lean ====
/-
  The frame of `Kernel`: every execution ends, faults nowhere, leaves the argument as it was and every semaphore at zero.

  The body runs at every grid point from its input block and any contents of the output blocks and of the scratch
  buffers (the two chunk loops by `chunkInv`, the two packing loops by their generated invariants); the output blocks
  are forgotten, since the frame says nothing of the results.
-/
module

public import proofs.«01_k».proof.Proof.KernelLoops
public import proofs.«01_k».proof.Proof.Gen.Kernel.Points

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [BitOps F]

local notation "𝕄" => MT nD τ sig Unit (Elt F) ℕ (UR sig nD τ) ℕ

/-- The row of the batch group as the four conditionals read it: zero, or positive. -/
theorem row_cases : ∀ r : Fin 8,
    (Scalar.cmpi .ne (Scalar.extui (Scalar.cmpi .eq (BitVec.ofNat 32 r.val) 0#32)) 0#32 = 1#1 ∧ ¬ Scalar.cmpi .ne (Scalar.extui (Scalar.cmpi .sgt (BitVec.ofNat 32 r.val) 0#32)) 0#32 = 1#1)
    ∨ (¬ Scalar.cmpi .ne (Scalar.extui (Scalar.cmpi .eq (BitVec.ofNat 32 r.val) 0#32)) 0#32 = 1#1 ∧ Scalar.cmpi .ne (Scalar.extui (Scalar.cmpi .sgt (BitVec.ofNat 32 r.val) 0#32)) 0#32 = 1#1) := by decide +kernel

/-- The conditionals' outcomes at a grid point: the first and the third hold together, the other two otherwise. -/
theorem cond_cases (i : grid0.Coords) :
    (k0_cond1 i = 1#1 ∧ ¬ k0_cond2 i = 1#1 ∧ k0_cond3 i = 1#1 ∧ ¬ k0_cond4 i = 1#1) ∨ (¬ k0_cond1 i = 1#1 ∧ k0_cond2 i = 1#1 ∧ ¬ k0_cond3 i = 1#1 ∧ k0_cond4 i = 1#1) := by
  rcases row_cases (i 2) with ⟨h, h'⟩ | ⟨h, h'⟩
  · exact Or.inl ⟨h, h', h, h'⟩
  · exact Or.inr ⟨h, h', h, h'⟩

set_option maxHeartbeats 4000000 in
/-- The body, under either outcome of its conditionals, from the input block at `x0` and anything in the other buffers
    to the input block at `x0` and something in the others. -/
theorem body_run (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole)
    (x0 : Vec F S1x256x5504 .bf16)
    (hc : (k0_cond1 i = 1#1 ∧ ¬ k0_cond2 i = 1#1 ∧ k0_cond3 i = 1#1 ∧ ¬ k0_cond4 i = 1#1) ∨ (¬ k0_cond1 i = 1#1 ∧ k0_cond2 i = 1#1 ∧ ¬ k0_cond3 i = 1#1 ∧ k0_cond4 i = 1#1))
    (K : PUnit → sProp 𝕄) :
    iprop(owns (c : Thread nD τ) arg3 fullShare x0 ∗ (∃ d, owns (c : Thread nD τ) arg4 fullShare d) ∗ (∃ d, owns (c : Thread nD τ) arg5 fullShare d) ∗ (∃ d, owns (c : Thread nD τ) arg6 fullShare d)
        ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))
        ∗ (iprop(owns (c : Thread nD τ) arg3 fullShare x0 ∗ (∃ d, owns (c : Thread nD τ) arg4 fullShare d) ∗ (∃ d, owns (c : Thread nD τ) arg5 fullShare d) ∗ (∃ d, owns (c : Thread nD τ) arg6 fullShare d)
          ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) -∗ K ⟨⟩))
      ⊢ wp frame (wpE (defs₀ (F := F)) Variants.none c none) Set.univ (cc0_nvfp4_quantise i arg3 harg3 arg4 harg4 arg5 harg5 arg6 harg6 arg7 harg7 arg8 harg8 arg9 harg9) K := by
  unfold owns
  iintro ⟨⟨%f3, %hf3, H3⟩, ⟨%d4, %f4, -, H4⟩, ⟨%d5, %f5, -, H5⟩, ⟨%d6, %f6, -, H6⟩, ⟨%f7, H7⟩, ⟨%f8, H8⟩, ⟨%f9, H9⟩, Hk⟩
  sl_unfold [cc0_nvfp4_quantise]
  rcases hc with ⟨hc1, hc2, hc3, hc4⟩ | ⟨hc1, hc2, hc3, hc4⟩
  all_goals
    sl_exec (disch := first | sl_exact hc1 | sl_exact hc2 | sl_exact hc3 | sl_exact hc4 | omega)
    sl_step
    iapply Hk
    isplitl [H3]
    · iexists _; isplitr; · ipureintro; exact hf3
      iexact H3
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]; · iexists _; iexact H7
    isplitl [H8]; · iexists _; iexact H8
    iexists _; iexact H9

variable (m : (ℓ : Loc nD τ sig) → Buf (Elt F) ℓ) (ρ : Dev nD → PrngReg)

/-- The proof data: the arrays as the region finds them, the input block left in place, the output blocks unspecified
    (they are forgotten below), the scratch buffers and the generator register at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fun _ => Classical.arbitrary _
    | ⟨2, _⟩ => fun _ => Classical.arbitrary _
    | ⟨3, _⟩ => fun _ => Classical.arbitrary _
  Φ _ := Pipeline.ΦA spec0 c
  q _ := fullShare
  owed _ := 0

/-- The forgotten windows: the three outputs. -/
abbrev fgt : Fin cfg0.W → Bool := fun w => match w with
  | ⟨0, _⟩ => false
  | ⟨1, _⟩ => true
  | ⟨2, _⟩ => true
  | ⟨3, _⟩ => true

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  before0_0_of m (dats m 0 c) (A_eq m c 0) (after0_0 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X)
    ∗ (∃ X, owns (c : Thread nD τ) (st0_2 t) fullShare X)
    ∗ (∃ X, owns (c : Thread nD τ) (st0_3 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ X, owns (c : Thread nD τ) (st0_1 t) fullShare X)
    ∗ (∃ X, owns (c : Thread nD τ) (st0_2 t) fullShare X)
    ∗ (∃ X, owns (c : Thread nD τ) (st0_3 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0,
    show (dats m 0 c).Φ t.castSucc = Pipeline.ΦA spec0 c from rfl]
  unfold Pipeline.ΦA
  rw [scopedRest0_eq]
  iintro ⟨⟨⟨⟨%g7, H7⟩, ⟨%g8, H8⟩, ⟨%g9, H9⟩⟩, Hr⟩, Ho, ⟨%d0, H0⟩, H1, H2, H3⟩
  iapply (body_run c _ _ _ _ _ _ _ _ _ _ _ _ _ _ _ (iblk m c 0 t) (cond_cases _) _)
  isplitl [H0]; · iexact H0
  isplitl [H1]; · iexact H1
  isplitl [H2]; · iexact H2
  isplitl [H3]; · iexact H3
  isplitl [H7]; · iexists g7; rw [View.set_whole]; iexact H7
  isplitl [H8]; · iexists g8; rw [View.set_whole]; iexact H8
  isplitl [H9]; · iexists g9; rw [View.set_whole]; iexact H9
  iintro ⟨H0, H1, H2, H3, ⟨%g7, H7⟩, ⟨%g8, H8⟩, ⟨%g9, H9⟩⟩
  isplitl [H7 H8 H9 Hr]
  · isplitr [Hr]
    · isplitl [H7]; · iexists g7; rw [View.set_whole]; iexact H7
      isplitl [H8]; · iexists g8; rw [View.set_whole]; iexact H8
      iexists g9; rw [View.set_whole]; iexact H9
    · iexact Hr
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point, the outputs forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-- The buffers that the host lines after the region write: the results. -/
abbrev T : Finset (Ref sig .tc) := {main_v1, main_v2, main_v3}

theorem tail_writes : ∀ ops ∈ ([hostOps1] : List (List (HloOp τ sig (Elt F)))), ∀ op ∈ ops, ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.unary_writes, StableHlo.reshape_writes, Finset.mem_singleton] at hb
    have := Proc.devRef_injective _ hb
    subst this; decide

set_option backward.isDefEq.respectTransparency.types false in
set_option maxHeartbeats 1600000 in
/-- The launch: the argument array as the region found it, and every semaphore at zero. -/
theorem run_main : θ_run defs (onTc (τ := τ) (main (F := F))) (s₀ m ρ)
    (fun r => Pipeline.RDat.FramePostR cfg0 (fun c => (dats m 0 c).toRForget fgt) T (V m) r ∧ r.2.sem = fun _ => 0) :=
  Pipeline.θ_run_frame_around_T_forget (Q' := _) cfgs (dats m) (0 : Fin 1) launch0 defs₀ Variants.none fgt T m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame of `Kernel`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h.1.arr_in c 0 rfl).trans ((A_eq m c 0).trans (V_main_arg0 m c)), h.2⟩) (run_main m ρ)

end Cert.Proof.Kernel

end
-- ==== Proof.IdealLoops.lean ====
/-
  The two chunk loops of the kernel `KernelIdeal`, by invariants that name no scratch contents.

  Each of the two column passes of the body runs a counted loop over the 43 chunks of 128 hidden elements: a trip
  reads the input block, overwrites its chunk of the transposed scratch and its eight rows of the scale scratch, and
  carries the running row maximum. For termination and the absence of faults it is enough that the input block is
  held at fixed contents and the two scratch buffers at some contents before every trip.
-/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic

@[expose] public section

set_option maxRecDepth 8192

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- What a chunk loop holds before a trip: the input block at `X`, the transposed scratch and the scale scratch at
    some contents. -/
abbrev chunkInv (c : Dev nD) (arg3 : Memref sig .tc .vmem S1x256x5504 .bf16) (arg7 : Memref sig .tc .vmem S5504x128 .bf16) (arg8 : Memref sig .tc .vmem S344x128 .f32)
    (X : BufTy.Contents (Elt F) arg3.view.ty) : sProp 𝕄G :=
  iprop((arg3.view.loc (c : Thread nD τ) ↦[arg3.view.set]{fullShare} X)
    ∗ (∃ f, (arg7.view.loc (c : Thread nD τ) ↦[arg7.view.set]{fullShare} f))
    ∗ (∃ f, (arg8.view.loc (c : Thread nD τ) ↦[arg8.view.set]{fullShare} f)))

set_option maxHeartbeats 4000000 in
/-- One trip of the first chunk loop keeps `chunkInv`. -/
theorem trip_t1 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole)
    (X : BufTy.Contents (Elt F) arg3.view.ty) (k : Fin k0_t1_loop.trips) (acc : FVec F S8x128 .f32) :
    chunkInv (F := F) c arg3 arg7 arg8 X
      ⊢ wp frame (wpE (defs₀ (F := F)) Variants.none (c : Thread nD τ) none) Set.univ
          (Cert.KernelIdeal.Gen.k0_t1_body (F := F) i arg3 harg3 arg4 harg4 arg5 harg5 arg6 harg6 arg7 harg7 arg8 harg8 arg9 harg9 k acc)
          (fun _ => chunkInv (F := F) c arg3 arg7 arg8 X) := by
  have hk : k.val < 43 := Nat.lt_of_lt_of_le k.isLt Cert.KernelIdeal.Gen.k0_t1_abs.2.1
  unfold Cert.KernelIdeal.Gen.k0_t1_body
  iintro ⟨H3, ⟨%f7, H7⟩, ⟨%f8, H8⟩⟩
  sl_exec
  sl_step
  isplitl [H3]; · iexact H3
  isplitl [H7]; · iexists _; iexact H7
  iexists _; iexact H8

set_option warn.classDefReducibility false in
/-- The first chunk loop by `chunkInv`. -/
@[sl_loop] def loopInv_k0_t1 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (init : FVec F S8x128 .f32)
    (X : BufTy.Contents (Elt F) arg3.view.ty) :
    Cert.KernelIdeal.Gen.LoopInvTy_k0_t1 (F := F) Unit ℕ (UR sig nD τ) ℕ Variants.none c none Set.univ i arg3 harg3 arg4 harg4 arg5 harg5 arg6 harg6 arg7 harg7 arg8 harg8 arg9 harg9 init where
  inv := fun _ _ => chunkInv (F := F) c arg3 arg7 arg8 X
  step := fun k acc => trip_t1 c i arg3 harg3 arg4 harg4 arg5 harg5 arg6 harg6 arg7 harg7 arg8 harg8 arg9 harg9 X k acc

set_option maxHeartbeats 4000000 in
/-- One trip of the second chunk loop keeps `chunkInv`. -/
theorem trip_t3 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (arg2 : BitVec 32) (v32 : FVec F S344x128 .f32) (cst_15 : F .f32)
    (X : BufTy.Contents (Elt F) arg3.view.ty) (k : Fin k0_t3_loop.trips) (acc : FVec F S8x128 .f32) :
    chunkInv (F := F) c arg3 arg7 arg8 X
      ⊢ wp frame (wpE (defs₀ (F := F)) Variants.none (c : Thread nD τ) none) Set.univ
          (Cert.KernelIdeal.Gen.k0_t3_body (F := F) i arg3 harg3 arg4 harg4 arg5 harg5 arg6 harg6 arg7 harg7 arg8 harg8 arg9 harg9 arg2 v32 cst_15 k acc)
          (fun _ => chunkInv (F := F) c arg3 arg7 arg8 X) := by
  have hk : k.val < 43 := Nat.lt_of_lt_of_le k.isLt Cert.KernelIdeal.Gen.k0_t3_abs.2.1
  unfold Cert.KernelIdeal.Gen.k0_t3_body
  iintro ⟨H3, ⟨%f7, H7⟩, ⟨%f8, H8⟩⟩
  sl_exec
  sl_step
  isplitl [H3]; · iexact H3
  isplitl [H7]; · iexists _; iexact H7
  iexists _; iexact H8

set_option warn.classDefReducibility false in
/-- The second chunk loop by `chunkInv`. -/
@[sl_loop] def loopInv_k0_t3 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (arg2 : BitVec 32) (v32 : FVec F S344x128 .f32) (cst_15 : F .f32) (init : FVec F S8x128 .f32)
    (X : BufTy.Contents (Elt F) arg3.view.ty) :
    Cert.KernelIdeal.Gen.LoopInvTy_k0_t3 (F := F) Unit ℕ (UR sig nD τ) ℕ Variants.none c none Set.univ i arg3 harg3 arg4 harg4 arg5 harg5 arg6 harg6 arg7 harg7 arg8 harg8 arg9 harg9 arg2 v32 cst_15 init where
  inv := fun _ _ => chunkInv (F := F) c arg3 arg7 arg8 X
  step := fun k acc => trip_t3 c i arg3 harg3 arg4 harg4 arg5 harg5 arg6 harg6 arg7 harg7 arg8 harg8 arg9 harg9 arg2 v32 cst_15 X k acc

end Cert.Proof.KernelIdeal

end
-- ==== Proof.IdealBody.lean ====
/-
  The frame of `KernelIdeal`: every execution ends, faults nowhere, leaves the argument as it was and every semaphore at zero.

  The body runs at every grid point from its input block and any contents of the output blocks and of the scratch
  buffers (the two chunk loops by `chunkInv`, the two packing loops by their generated invariants); the output blocks
  are forgotten, since the frame says nothing of the results.
-/
module

public import proofs.«01_k».proof.Proof.IdealLoops
public import proofs.«01_k».proof.Proof.Gen.KernelIdeal.Points

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The row of the batch group as the four conditionals read it: zero, or positive. -/
theorem row_cases : ∀ r : Fin 8,
    (Scalar.cmpi .ne (Scalar.extui (Scalar.cmpi .eq (BitVec.ofNat 32 r.val) 0#32)) 0#32 = 1#1 ∧ ¬ Scalar.cmpi .ne (Scalar.extui (Scalar.cmpi .sgt (BitVec.ofNat 32 r.val) 0#32)) 0#32 = 1#1)
    ∨ (¬ Scalar.cmpi .ne (Scalar.extui (Scalar.cmpi .eq (BitVec.ofNat 32 r.val) 0#32)) 0#32 = 1#1 ∧ Scalar.cmpi .ne (Scalar.extui (Scalar.cmpi .sgt (BitVec.ofNat 32 r.val) 0#32)) 0#32 = 1#1) := by decide +kernel

/-- The conditionals' outcomes at a grid point: the first and the third hold together, the other two otherwise. -/
theorem cond_cases (i : grid0.Coords) :
    (k0_cond1 i = 1#1 ∧ ¬ k0_cond2 i = 1#1 ∧ k0_cond3 i = 1#1 ∧ ¬ k0_cond4 i = 1#1) ∨ (¬ k0_cond1 i = 1#1 ∧ k0_cond2 i = 1#1 ∧ ¬ k0_cond3 i = 1#1 ∧ k0_cond4 i = 1#1) := by
  rcases row_cases (i 2) with ⟨h, h'⟩ | ⟨h, h'⟩
  · exact Or.inl ⟨h, h', h, h'⟩
  · exact Or.inr ⟨h, h', h, h'⟩

set_option maxHeartbeats 4000000 in
/-- The body, under either outcome of its conditionals, from the input block at `x0` and anything in the other buffers
    to the input block at `x0` and something in the others. -/
theorem body_run (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole)
    (x0 : Vec F S1x256x5504 .bf16)
    (hc : (k0_cond1 i = 1#1 ∧ ¬ k0_cond2 i = 1#1 ∧ k0_cond3 i = 1#1 ∧ ¬ k0_cond4 i = 1#1) ∨ (¬ k0_cond1 i = 1#1 ∧ k0_cond2 i = 1#1 ∧ ¬ k0_cond3 i = 1#1 ∧ k0_cond4 i = 1#1))
    (K : PUnit → sProp 𝕄) :
    iprop(owns (c : Thread nD τ) arg3 fullShare x0 ∗ (∃ d, owns (c : Thread nD τ) arg4 fullShare d) ∗ (∃ d, owns (c : Thread nD τ) arg5 fullShare d) ∗ (∃ d, owns (c : Thread nD τ) arg6 fullShare d)
        ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))
        ∗ (iprop(owns (c : Thread nD τ) arg3 fullShare x0 ∗ (∃ d, owns (c : Thread nD τ) arg4 fullShare d) ∗ (∃ d, owns (c : Thread nD τ) arg5 fullShare d) ∗ (∃ d, owns (c : Thread nD τ) arg6 fullShare d)
          ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) -∗ K ⟨⟩))
      ⊢ wp frame (wpE (defs₀ (F := F)) Variants.none c none) Set.univ (cc0_nvfp4_quantise i arg3 harg3 arg4 harg4 arg5 harg5 arg6 harg6 arg7 harg7 arg8 harg8 arg9 harg9) K := by
  unfold owns
  iintro ⟨⟨%f3, %hf3, H3⟩, ⟨%d4, %f4, -, H4⟩, ⟨%d5, %f5, -, H5⟩, ⟨%d6, %f6, -, H6⟩, ⟨%f7, H7⟩, ⟨%f8, H8⟩, ⟨%f9, H9⟩, Hk⟩
  sl_unfold [cc0_nvfp4_quantise]
  rcases hc with ⟨hc1, hc2, hc3, hc4⟩ | ⟨hc1, hc2, hc3, hc4⟩
  all_goals
    sl_exec (disch := first | sl_exact hc1 | sl_exact hc2 | sl_exact hc3 | sl_exact hc4 | omega)
    sl_step
    iapply Hk
    isplitl [H3]
    · iexists _; isplitr; · ipureintro; exact hf3
      iexact H3
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]; · iexists _; iexact H7
    isplitl [H8]; · iexists _; iexact H8
    iexists _; iexact H9

variable (m : (ℓ : Loc nD τ sig) → Buf (Elt F) ℓ) (ρ : Dev nD → PrngReg)

/-- The proof data: the arrays as the region finds them, the input block left in place, the output blocks unspecified
    (they are forgotten below), the scratch buffers and the generator register at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fun _ => Classical.arbitrary _
    | ⟨2, _⟩ => fun _ => Classical.arbitrary _
    | ⟨3, _⟩ => fun _ => Classical.arbitrary _
  Φ _ := Pipeline.ΦA spec0 c
  q _ := fullShare
  owed _ := 0

/-- The forgotten windows: the three outputs. -/
abbrev fgt : Fin cfg0.W → Bool := fun w => match w with
  | ⟨0, _⟩ => false
  | ⟨1, _⟩ => true
  | ⟨2, _⟩ => true
  | ⟨3, _⟩ => true

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  before0_0_of m (dats m 0 c) (A_eq m c 0) (after0_0 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X)
    ∗ (∃ X, owns (c : Thread nD τ) (st0_2 t) fullShare X)
    ∗ (∃ X, owns (c : Thread nD τ) (st0_3 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ X, owns (c : Thread nD τ) (st0_1 t) fullShare X)
    ∗ (∃ X, owns (c : Thread nD τ) (st0_2 t) fullShare X)
    ∗ (∃ X, owns (c : Thread nD τ) (st0_3 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0,
    show (dats m 0 c).Φ t.castSucc = Pipeline.ΦA spec0 c from rfl]
  unfold Pipeline.ΦA
  rw [scopedRest0_eq]
  iintro ⟨⟨⟨⟨%g7, H7⟩, ⟨%g8, H8⟩, ⟨%g9, H9⟩⟩, Hr⟩, Ho, ⟨%d0, H0⟩, H1, H2, H3⟩
  iapply (body_run c _ _ _ _ _ _ _ _ _ _ _ _ _ _ _ (iblk m c 0 t) (cond_cases _) _)
  isplitl [H0]; · iexact H0
  isplitl [H1]; · iexact H1
  isplitl [H2]; · iexact H2
  isplitl [H3]; · iexact H3
  isplitl [H7]; · iexists g7; rw [View.set_whole]; iexact H7
  isplitl [H8]; · iexists g8; rw [View.set_whole]; iexact H8
  isplitl [H9]; · iexists g9; rw [View.set_whole]; iexact H9
  iintro ⟨H0, H1, H2, H3, ⟨%g7, H7⟩, ⟨%g8, H8⟩, ⟨%g9, H9⟩⟩
  isplitl [H7 H8 H9 Hr]
  · isplitr [Hr]
    · isplitl [H7]; · iexists g7; rw [View.set_whole]; iexact H7
      isplitl [H8]; · iexists g8; rw [View.set_whole]; iexact H8
      iexists g9; rw [View.set_whole]; iexact H9
    · iexact Hr
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point, the outputs forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-- The buffers that the host lines after the region write: the results. -/
abbrev T : Finset (Ref sig .tc) := {main_v1, main_v2, main_v3}

theorem tail_writes : ∀ ops ∈ ([hostOps1] : List (List (HloOp τ sig (Elt F)))), ∀ op ∈ ops, ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.unary_writes, StableHlo.reshape_writes, Finset.mem_singleton] at hb
    have := Proc.devRef_injective _ hb
    subst this; decide

set_option backward.isDefEq.respectTransparency.types false in
set_option maxHeartbeats 1600000 in
/-- The launch: the argument array as the region found it, and every semaphore at zero. -/
theorem run_main : θ_run defs (onTc (τ := τ) (main (F := F))) (s₀ m ρ)
    (fun r => Pipeline.RDat.FramePostR cfg0 (fun c => (dats m 0 c).toRForget fgt) T (V m) r ∧ r.2.sem = fun _ => 0) :=
  Pipeline.θ_run_frame_around_T_forget (Q' := _) cfgs (dats m) (0 : Fin 1) launch0 defs₀ Variants.none fgt T m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame of `KernelIdeal`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h.1.arr_in c 0 rfl).trans ((A_eq m c 0).trans (V_main_arg0 m c)), h.2⟩) (run_main m ρ)

end Cert.Proof.KernelIdeal

end
-- ==== Proof.E2M1.lean ====
module

public import Idealize.ShloMosaic.PureOps.Ideal
public import Idealize.ShloMosaic.Lib.IdealHost

@[expose] public section

/-! # Rounding a real to an e2m1 code, two ways

The e2m1 magnitudes are 0, 1/2, 1, 3/2, 2, 3, 4, 6, coded 0 to 7; bit 3 is the sign. The kernel counts the midpoints
that the absolute value passes; the reference rounds to the nearest multiple of the binade's step, ties to even, and
counts the magnitudes that the rounded value reaches. On [-6, 6] both give `code`, the kernel after it drops the sign of
a zero. -/

noncomputable section

namespace Cert.Proof.E2M1

open Idealize.ShloMosaic

/-- The absolute value, as the programs take it. -/
def abs (v : EReal) : EReal := max v (-v)

/-- The nearest magnitude's code, ties to the even code. -/
def magnitude (a : EReal) : BitVec 4 :=
  if a ≤ ((1 / 4 : ℝ) : EReal) then 0#4 else if a < ((3 / 4 : ℝ) : EReal) then 1#4
  else if a ≤ ((5 / 4 : ℝ) : EReal) then 2#4 else if a < ((7 / 4 : ℝ) : EReal) then 3#4
  else if a ≤ ((5 / 2 : ℝ) : EReal) then 4#4 else if a < ((7 / 2 : ℝ) : EReal) then 5#4
  else if a ≤ ((5 : ℝ) : EReal) then 6#4 else 7#4

/-- The e2m1 code of `v`, a zero's sign dropped. -/
def code (v : EReal) : BitVec 4 :=
  if v < 0 ∧ magnitude (abs v) ≠ 0#4 then 8#4 + magnitude (abs v) else magnitude (abs v)

/-- The kernel's code: the sign's 8 plus the number of midpoints passed. -/
def rawCode (v : EReal) : BitVec 32 :=
  (if v < 0 then 8#32 else 0#32) + (if ((1 / 4 : ℝ) : EReal) < abs v then 1#32 else 0#32)
    + (if ((3 / 4 : ℝ) : EReal) ≤ abs v then 1#32 else 0#32) + (if ((5 / 4 : ℝ) : EReal) < abs v then 1#32 else 0#32)
    + (if ((7 / 4 : ℝ) : EReal) ≤ abs v then 1#32 else 0#32) + (if ((5 / 2 : ℝ) : EReal) < abs v then 1#32 else 0#32)
    + (if ((7 / 2 : ℝ) : EReal) ≤ abs v then 1#32 else 0#32) + (if ((5 : ℝ) : EReal) < abs v then 1#32 else 0#32)

/-- The step of the binade that `a` lies in. -/
def step (a : EReal) : EReal :=
  if a < ((2 : ℝ) : EReal) then ((1 / 2 : ℝ) : EReal) else if a < ((4 : ℝ) : EReal) then ((1 : ℝ) : EReal) else ((2 : ℝ) : EReal)

/-- The absolute value rounded to a multiple of the step, ties to the even multiple. -/
def rounded (v : EReal) : EReal := Ideal.liftRound Ideal.roundHalfEven (Ideal.div (abs v) (step (abs v))) * step (abs v)

/-- The number of magnitudes that `q` reaches. -/
def reached (q : EReal) : BitVec 32 :=
  0#32 + (if ((1 / 2 : ℝ) : EReal) ≤ q then 1#32 else 0#32) + (if ((1 : ℝ) : EReal) ≤ q then 1#32 else 0#32)
    + (if ((3 / 2 : ℝ) : EReal) ≤ q then 1#32 else 0#32) + (if ((2 : ℝ) : EReal) ≤ q then 1#32 else 0#32)
    + (if ((3 : ℝ) : EReal) ≤ q then 1#32 else 0#32) + (if ((4 : ℝ) : EReal) ≤ q then 1#32 else 0#32)
    + (if ((6 : ℝ) : EReal) ≤ q then 1#32 else 0#32)

/-- The reference's code: the sign of the rounded value, plus the number of magnitudes reached. -/
def refCode (v : EReal) : BitVec 32 :=
  (if (if v < 0 then 0 - rounded v else rounded v) < 0 then 8#32 else 0#32) + reached (rounded v)

theorem abs_coe (r : ℝ) : abs (r : EReal) = ((|r| : ℝ) : EReal) := by
  rw [abs, abs_eq_max_neg]
  rcases le_total r (-r) with h | h
  · rw [max_eq_right h, max_eq_right (by exact_mod_cast h)]; rfl
  · rw [max_eq_left h, max_eq_left (by exact_mod_cast h)]

theorem roundHalfEven_of_lt {x : ℝ} (n : ℤ) (h₁ : (n : ℝ) - 1 / 2 < x) (h₂ : x < (n : ℝ) + 1 / 2) :
    Ideal.roundHalfEven x = n := by
  unfold Ideal.roundHalfEven
  by_cases h : (n : ℝ) ≤ x
  · have hf : ⌊x⌋ = n := Int.floor_eq_iff.mpr ⟨h, by linarith⟩
    simp only [hf]
    rw [if_pos (by linarith)]
  · have hf : ⌊x⌋ = n - 1 := Int.floor_eq_iff.mpr ⟨by push_cast; linarith, by push_cast; linarith⟩
    simp only [hf]
    rw [if_neg (by push_cast; linarith), if_pos (by push_cast; linarith)]
    omega

theorem roundHalfEven_of_even {x : ℝ} (n : ℤ) (h₁ : (n : ℝ) - 1 / 2 ≤ x) (h₂ : x ≤ (n : ℝ) + 1 / 2) (hn : Even n) :
    Ideal.roundHalfEven x = n := by
  rcases eq_or_lt_of_le h₁ with h | h
  · have hf : ⌊x⌋ = n - 1 := Int.floor_eq_iff.mpr ⟨by push_cast; linarith, by push_cast; linarith⟩
    unfold Ideal.roundHalfEven
    simp only [hf]
    rw [if_neg (by push_cast; linarith), if_neg (by push_cast; linarith), if_neg]
    · omega
    · intro he
      rcases hn with ⟨a, ha⟩
      rcases he with ⟨b, hb⟩
      omega
  rcases eq_or_lt_of_le h₂ with h' | h'
  · have hf : ⌊x⌋ = n := Int.floor_eq_iff.mpr ⟨by linarith, by linarith⟩
    unfold Ideal.roundHalfEven
    simp only [hf]
    rw [if_neg (by linarith), if_neg (by linarith), if_pos hn]
  · exact roundHalfEven_of_lt n h h'

/-- A quotient of reals by a nonzero real, rounded, times that real. -/
theorem rounded_coe {r s : ℝ} (hs : s ≠ 0) (n : ℤ) (hst : step ((|r| : ℝ) : EReal) = (s : EReal))
    (hn : Ideal.roundHalfEven (|r| / s) = n) : rounded (r : EReal) = (((n : ℝ) * s : ℝ) : EReal) := by
  have hd : Ideal.div ((|r| : ℝ) : EReal) (s : EReal) = ((|r| / s : ℝ) : EReal) := by
    rw [Ideal.div_coe hs, ← EReal.coe_mul, mul_one_div]
  rw [rounded, abs_coe, hst, hd, Ideal.liftRound_coe, hn, ← EReal.coe_mul]

/-- The magnitudes, by code. -/
def val : Fin 8 → ℝ := ![0, 1 / 2, 1, 3 / 2, 2, 3, 4, 6]

/-- Between which midpoints an absolute value lies. -/
def Between (a : ℝ) : Fin 8 → Prop :=
  ![a ≤ 1 / 4, 1 / 4 < a ∧ a < 3 / 4, 3 / 4 ≤ a ∧ a ≤ 5 / 4, 5 / 4 < a ∧ a < 7 / 4, 7 / 4 ≤ a ∧ a ≤ 5 / 2,
    5 / 2 < a ∧ a < 7 / 2, 7 / 2 ≤ a ∧ a ≤ 5, 5 < a]

theorem exists_between (a : ℝ) : ∃ k, Between a k := by
  by_cases c1 : a ≤ 1 / 4
  · exact ⟨0, c1⟩
  by_cases c2 : a < 3 / 4
  · exact ⟨1, not_le.mp c1, c2⟩
  by_cases c3 : a ≤ 5 / 4
  · exact ⟨2, not_lt.mp c2, c3⟩
  by_cases c4 : a < 7 / 4
  · exact ⟨3, not_le.mp c3, c4⟩
  by_cases c5 : a ≤ 5 / 2
  · exact ⟨4, not_lt.mp c4, c5⟩
  by_cases c6 : a < 7 / 2
  · exact ⟨5, not_le.mp c5, c6⟩
  by_cases c7 : a ≤ 5
  · exact ⟨6, not_lt.mp c6, c7⟩
  · exact ⟨7, not_le.mp c7⟩

/-- A statement about `Between a k` follows from its eight cases, as inequalities. -/
theorem between_elim {a : ℝ} {k : Fin 8} (h : Between a k) {C : Fin 8 → Prop} (h0 : a ≤ 1 / 4 → C 0) (h1 : 1 / 4 < a → a < 3 / 4 → C 1)
    (h2 : 3 / 4 ≤ a → a ≤ 5 / 4 → C 2) (h3 : 5 / 4 < a → a < 7 / 4 → C 3) (h4 : 7 / 4 ≤ a → a ≤ 5 / 2 → C 4)
    (h5 : 5 / 2 < a → a < 7 / 2 → C 5) (h6 : 7 / 2 ≤ a → a ≤ 5 → C 6) (h7 : 5 < a → C 7) : C k := by
  fin_cases k
  · exact h0 h
  · exact h1 h.1 h.2
  · exact h2 h.1 h.2
  · exact h3 h.1 h.2
  · exact h4 h.1 h.2
  · exact h5 h.1 h.2
  · exact h6 h.1 h.2
  · exact h7 h

/-- The magnitude's code of an absolute value between two midpoints. -/
theorem magnitude_of_between {a : ℝ} {k : Fin 8} (h : Between a k) : magnitude (a : EReal) = BitVec.ofNat 4 k.val := by
  unfold magnitude
  simp only [EReal.coe_le_coe_iff, EReal.coe_lt_coe_iff]
  refine between_elim h (C := fun k => _ = BitVec.ofNat 4 k.val) ?_ ?_ ?_ ?_ ?_ ?_ ?_ ?_ <;> intros <;>
  (first | rw [if_pos (show a ≤ 1 / 4 by linarith)] | rw [if_neg (show ¬ a ≤ 1 / 4 by linarith)]
   first | done | rw [if_pos (show a < 3 / 4 by linarith)] | rw [if_neg (show ¬ a < 3 / 4 by linarith)] | skip
   first | done | rw [if_pos (show a ≤ 5 / 4 by linarith)] | rw [if_neg (show ¬ a ≤ 5 / 4 by linarith)] | skip
   first | done | rw [if_pos (show a < 7 / 4 by linarith)] | rw [if_neg (show ¬ a < 7 / 4 by linarith)] | skip
   first | done | rw [if_pos (show a ≤ 5 / 2 by linarith)] | rw [if_neg (show ¬ a ≤ 5 / 2 by linarith)] | skip
   first | done | rw [if_pos (show a < 7 / 2 by linarith)] | rw [if_neg (show ¬ a < 7 / 2 by linarith)] | skip
   first | done | rw [if_pos (show a ≤ 5 by linarith)] | rw [if_neg (show ¬ a ≤ 5 by linarith)] | skip
   try rfl)

/-- The number of midpoints passed by an absolute value between two midpoints. -/
theorem passed_of_between {a : ℝ} {k : Fin 8} (h : Between a k) (z : BitVec 32) :
    z + (if ((1 / 4 : ℝ) : EReal) < a then 1#32 else 0#32)
    + (if ((3 / 4 : ℝ) : EReal) ≤ a then 1#32 else 0#32) + (if ((5 / 4 : ℝ) : EReal) < a then 1#32 else 0#32)
    + (if ((7 / 4 : ℝ) : EReal) ≤ a then 1#32 else 0#32) + (if ((5 / 2 : ℝ) : EReal) < a then 1#32 else 0#32)
    + (if ((7 / 2 : ℝ) : EReal) ≤ a then 1#32 else 0#32) + (if ((5 : ℝ) : EReal) < a then 1#32 else 0#32)
      = z + BitVec.ofNat 32 k.val := by
  simp only [EReal.coe_le_coe_iff, EReal.coe_lt_coe_iff, BitVec.add_assoc]
  refine congrArg (z + ·) ?_
  refine between_elim h (C := fun k => _ = BitVec.ofNat 32 k.val) ?_ ?_ ?_ ?_ ?_ ?_ ?_ ?_ <;> intros <;>
  (first | rw [if_pos (show 1 / 4 < a by linarith)] | rw [if_neg (show ¬ 1 / 4 < a by linarith)]
   first | rw [if_pos (show 3 / 4 ≤ a by linarith)] | rw [if_neg (show ¬ 3 / 4 ≤ a by linarith)]
   first | rw [if_pos (show 5 / 4 < a by linarith)] | rw [if_neg (show ¬ 5 / 4 < a by linarith)]
   first | rw [if_pos (show 7 / 4 ≤ a by linarith)] | rw [if_neg (show ¬ 7 / 4 ≤ a by linarith)]
   first | rw [if_pos (show 5 / 2 < a by linarith)] | rw [if_neg (show ¬ 5 / 2 < a by linarith)]
   first | rw [if_pos (show 7 / 2 ≤ a by linarith)] | rw [if_neg (show ¬ 7 / 2 ≤ a by linarith)]
   first | rw [if_pos (show 5 < a by linarith)] | rw [if_neg (show ¬ 5 < a by linarith)]
   rfl)

/-- Which magnitude a value of absolute value at most 6 rounds to. -/
theorem rounded_of_between {r : ℝ} (h : |r| ≤ 6) {k : Fin 8} (hk : Between |r| k) : rounded r = ((val k : ℝ) : EReal) := by
  have h0 : 0 ≤ |r| := abs_nonneg r
  have s1 : |r| < 2 → step ((|r| : ℝ) : EReal) = ((1 / 2 : ℝ) : EReal) := fun h => by
    rw [step, if_pos (EReal.coe_lt_coe_iff.mpr h)]
  have s2 : 2 ≤ |r| → |r| < 4 → step ((|r| : ℝ) : EReal) = ((1 : ℝ) : EReal) := fun h h' => by
    rw [step, if_neg (not_lt.mpr (EReal.coe_le_coe_iff.mpr h)), if_pos (EReal.coe_lt_coe_iff.mpr h')]
  have s3 : 4 ≤ |r| → step ((|r| : ℝ) : EReal) = ((2 : ℝ) : EReal) := fun h => by
    rw [step, if_neg (not_lt.mpr (EReal.coe_le_coe_iff.mpr (by linarith))), if_neg (not_lt.mpr (EReal.coe_le_coe_iff.mpr h))]
  have lo : ∀ (n : ℤ) (q : ℝ), |r| < 2 → Ideal.roundHalfEven (|r| / (1 / 2)) = n → (n : ℝ) * (1 / 2) = q → rounded r = (q : EReal) :=
    fun n q h hn hq => hq ▸ rounded_coe (by norm_num) n (s1 h) hn
  have mid : ∀ (n : ℤ) (q : ℝ), 2 ≤ |r| → |r| < 4 → Ideal.roundHalfEven (|r| / 1) = n → (n : ℝ) * 1 = q → rounded r = (q : EReal) :=
    fun n q h h' hn hq => hq ▸ rounded_coe (by norm_num) n (s2 h h') hn
  have hi : ∀ (n : ℤ) (q : ℝ), 4 ≤ |r| → Ideal.roundHalfEven (|r| / 2) = n → (n : ℝ) * 2 = q → rounded r = (q : EReal) :=
    fun n q h hn hq => hq ▸ rounded_coe (by norm_num) n (s3 h) hn
  refine between_elim hk (C := fun k => rounded r = ((val k : ℝ) : EReal)) ?_ ?_ ?_ ?_ ?_ ?_ ?_ ?_
  · intro a
    exact lo 0 _ (by linarith) (roundHalfEven_of_even 0 (by push_cast; linarith) (by push_cast; linarith) (by decide)) (by simp [val])
  · intro a b
    exact lo 1 _ (by linarith) (roundHalfEven_of_lt 1 (by push_cast; linarith) (by push_cast; linarith)) (by simp [val])
  · intro a b
    exact lo 2 _ (by linarith) (roundHalfEven_of_even 2 (by push_cast; linarith) (by push_cast; linarith) (by decide)) (by simp [val])
  · intro a b
    exact lo 3 _ (by linarith) (roundHalfEven_of_lt 3 (by push_cast; linarith) (by push_cast; linarith)) (by simp [val]; norm_num)
  · intro a b
    by_cases c : |r| < 2
    · exact lo 4 _ c (roundHalfEven_of_even 4 (by push_cast; linarith) (by push_cast; linarith) (by decide)) (by simp [val]; norm_num)
    · exact mid 2 _ (by linarith) (by linarith)
        (roundHalfEven_of_even 2 (by push_cast; linarith) (by push_cast; linarith) (by decide)) (by simp [val])
  · intro a b
    exact mid 3 _ (by linarith) (by linarith) (roundHalfEven_of_lt 3 (by push_cast; linarith) (by push_cast; linarith)) (by simp [val])
  · intro a b
    by_cases c : |r| < 4
    · exact mid 4 _ (by linarith) c (roundHalfEven_of_even 4 (by push_cast; linarith) (by push_cast; linarith) (by decide)) (by simp [val])
    · exact hi 2 _ (by linarith) (roundHalfEven_of_even 2 (by push_cast; linarith) (by push_cast; linarith) (by decide)) (by simp [val]; norm_num)
  · intro a
    exact hi 3 _ (by linarith) (roundHalfEven_of_lt 3 (by push_cast; linarith) (by push_cast; linarith)) (by simp [val]; norm_num)

/-- A magnitude reaches exactly the magnitudes up to its own code. -/
theorem reached_val (k : Fin 8) : reached ((val k : ℝ) : EReal) = BitVec.ofNat 32 k.val := by
  unfold reached
  simp only [EReal.coe_le_coe_iff]
  fin_cases k <;> simp [val] <;> norm_num <;> rfl

theorem val_pos (k : Fin 8) : 0 < val k ↔ k ≠ 0 := by
  fin_cases k <;> simp [val]

theorem val_nonneg (k : Fin 8) : 0 ≤ val k := by
  fin_cases k <;> simp [val] <;> norm_num

theorem ofNat_ne_zero : ∀ k : Fin 8, BitVec.ofNat 4 k.val ≠ 0#4 ↔ k ≠ 0 := by decide

/-- The code of a real, by the midpoints around its absolute value. -/
theorem code_of_between {r : ℝ} {k : Fin 8} (hk : Between |r| k) :
    code r = if r < 0 ∧ k ≠ 0 then 8#4 + BitVec.ofNat 4 k.val else BitVec.ofNat 4 k.val := by
  unfold code
  rw [abs_coe, magnitude_of_between hk]
  simp only [EReal.coe_neg', ofNat_ne_zero]

theorem widen_code : ∀ k : Fin 8,
    (8#32 + BitVec.ofNat 32 k.val = (8#4 + BitVec.ofNat 4 k.val).setWidth 32) ∧ (0#32 + BitVec.ofNat 32 k.val = (BitVec.ofNat 4 k.val).setWidth 32) := by
  decide

/-- The reference's code is `code`, on values of absolute value at most 6. -/
theorem refCode_coe {r : ℝ} (h : |r| ≤ 6) : refCode r = (code r).setWidth 32 := by
  obtain ⟨k, hk⟩ := exists_between |r|
  unfold refCode
  rw [rounded_of_between h hk, reached_val, code_of_between hk]
  by_cases hr : r < 0
  · rw [if_pos (EReal.coe_neg'.mpr hr), zero_sub, ← EReal.coe_neg]
    simp only [EReal.coe_neg', neg_lt_zero, val_pos, hr, true_and]
    by_cases h0 : k = 0
    · rw [if_neg (not_not.mpr h0), if_neg (not_not.mpr h0)]; exact (widen_code k).2
    · rw [if_pos h0, if_pos h0]; exact (widen_code k).1
  · rw [if_neg (fun h => hr (EReal.coe_neg'.mp h)), if_neg (fun h => absurd (EReal.coe_neg'.mp h) (not_lt.mpr (val_nonneg k))),
      if_neg (fun h => hr h.1)]
    exact (widen_code k).2

/-- Dropping the sign of a zero code. -/
def clean (c : BitVec 4) : BitVec 4 := c &&& ((c &&& 7#4) + 7#4 ||| 7#4)

theorem clean_code : ∀ k : Fin 8, clean (8#4 + BitVec.ofNat 4 k.val) = (if k ≠ 0 then 8#4 + BitVec.ofNat 4 k.val else BitVec.ofNat 4 k.val)
    ∧ clean (BitVec.ofNat 4 k.val) = BitVec.ofNat 4 k.val := by decide

/-- The kernel's code of a real fits four bits, and its zero cleaned it is `code`. -/
theorem rawCode_coe (r : ℝ) : ∃ c : BitVec 4, rawCode r = c.setWidth 32 ∧ clean c = code r := by
  obtain ⟨k, hk⟩ := exists_between |r|
  unfold rawCode
  rw [abs_coe, passed_of_between hk, code_of_between hk]
  by_cases hr : r < 0
  · refine ⟨8#4 + BitVec.ofNat 4 k.val, ?_, ?_⟩
    · rw [if_pos (EReal.coe_neg'.mpr hr)]; exact (widen_code k).1
    · simp only [hr, true_and]; exact (clean_code k).1
  · refine ⟨BitVec.ofNat 4 k.val, ?_, ?_⟩
    · rw [if_neg (fun h => hr (EReal.coe_neg'.mp h))]; exact (widen_code k).2
    · rw [if_neg (fun h => hr h.1)]; exact (clean_code k).2

end Cert.Proof.E2M1
-- ==== Proof.Token.lean ====
module

public import proofs.«01_k».proof.Proof.E2M1

@[expose] public section

/-! # One token's quantisation, over the extended reals

A token is a row of 5504 values, in 344 blocks of 16. Everything that the kernel and the reference return is, token by
token, a function of the row: a scale for the token, a scale for each block, and a byte for each pair of values. -/

noncomputable section

namespace Cert.Proof.Token

open Idealize.ShloMosaic

/-- A token's values. -/
abbrev Row := Fin 5504 → EReal

/-- Value `e` of block `b`, as a position in the row. -/
abbrev pos (b : Fin 344) (e : Fin 16) : Fin 5504 := ⟨16 * b.val + e.val, by omega⟩

/-- The largest absolute value in a block. -/
def amax (x : Row) (b : Fin 344) : EReal := Finset.univ.sup fun e : Fin 16 => max (x (pos b e)) (-(x (pos b e)))

/-- The largest absolute value in the row. -/
def rowMax (x : Row) : EReal := Finset.univ.sup (amax x)

theorem amax_le_iff (x : Row) (b : Fin 344) (u : EReal) :
    amax x b ≤ u ↔ ∀ e : Fin 16, max (x (pos b e)) (-(x (pos b e))) ≤ u := by
  simp only [amax, Finset.sup_le_iff, Finset.mem_univ, true_implies]

theorem rowMax_le_iff (x : Row) (u : EReal) : rowMax x ≤ u ↔ ∀ b : Fin 344, amax x b ≤ u := by
  simp only [rowMax, Finset.sup_le_iff, Finset.mem_univ, true_implies]

theorem abs_nonneg (a : EReal) : 0 ≤ max a (-a) := by
  rcases le_total 0 a with h | h
  · exact le_max_of_le_left h
  · exact le_max_of_le_right (EReal.neg_nonneg.mpr h)

theorem amax_nonneg (x : Row) (b : Fin 344) : 0 ≤ amax x b :=
  (abs_nonneg _).trans ((amax_le_iff x b _).mp le_rfl 0)

theorem rowMax_nonneg (x : Row) : 0 ≤ rowMax x :=
  (amax_nonneg x 0).trans ((rowMax_le_iff x _).mp le_rfl 0)

/-- The token's scale: the largest absolute value over 2688 = 6 · 448, or one for a row of zeros. -/
def tokenScale (x : Row) : EReal := if 0 < rowMax x then rowMax x * ((1 / 2688 : ℝ) : EReal) else 1

/-- A block's scale, in units of the token's scale, at most 448. -/
def blockScale (x : Row) (b : Fin 344) : EReal :=
  min (Ideal.div (amax x b) (((6 : ℝ) : EReal) * tokenScale x)) ((448 : ℝ) : EReal)

/-- What a block's values are divided by: the product of the two scales, or one where that is zero. -/
def divisor (x : Row) (b : Fin 344) : EReal :=
  if blockScale x b * tokenScale x = 0 then 1 else blockScale x b * tokenScale x

theorem divisor_ne_zero (x : Row) (b : Fin 344) : divisor x b ≠ 0 := by
  unfold divisor
  split
  · exact one_ne_zero
  · assumption

/-- Limits a value to [-6, 6]. -/
def clip (v : EReal) : EReal := min ((6 : ℝ) : EReal) (max ((-6 : ℝ) : EReal) v)

/-- A clipped value is a real in [-6, 6], whatever it was. -/
theorem clip_real (v : EReal) : ∃ r : ℝ, clip v = (r : EReal) ∧ |r| ≤ 6 := by
  have hlo : ((-6 : ℝ) : EReal) ≤ clip v := le_min (by exact_mod_cast (by norm_num : (-6 : ℝ) ≤ 6)) (le_max_left _ _)
  have hhi : clip v ≤ ((6 : ℝ) : EReal) := min_le_left _ _
  obtain ⟨r, hr⟩ : ∃ r : ℝ, (r : EReal) = clip v := by
    refine ⟨(clip v).toReal, EReal.coe_toReal ?_ ?_⟩
    · intro h; rw [h] at hhi; exact absurd hhi (not_le.mpr (EReal.coe_lt_top 6))
    · intro h; rw [h] at hlo; exact absurd hlo (not_le.mpr (EReal.bot_lt_coe (-6)))
  refine ⟨r, hr.symm, ?_⟩
  rw [← hr] at hlo hhi
  exact abs_le.mpr ⟨by exact_mod_cast hlo, by exact_mod_cast hhi⟩

/-- The block of a position. -/
abbrev blockOf (d : Fin 5504) : Fin 344 := ⟨d.val / 16, by omega⟩

/-- A value over its block's divisor, clipped. -/
def scaled (x : Row) (d : Fin 5504) : EReal := clip (Ideal.div (x d) (divisor x (blockOf d)))

/-- A product with the reciprocal of a divisor that is not zero is the quotient. -/
theorem mul_recip (a e : EReal) (h : e ≠ 0) : a * Ideal.div 1 e = Ideal.div a e := by
  rw [Ideal.div, if_neg h, Ideal.div, if_neg h, one_mul]

/-- The byte of a pair of values: two e2m1 codes, the second value's high. -/
def byte (x : Row) (R : Fin 2752) : BitVec 8 :=
  (E2M1.code (scaled x ⟨2 * R.val + 1, by omega⟩) ++ E2M1.code (scaled x ⟨2 * R.val, by omega⟩) : BitVec (4 + 4))

end Cert.Proof.Token
-- ==== Proof.ChunkValue.lean ====
module

public import proofs.«01_k».proof.Proof.Gen.KernelIdeal.Skeleton
public import proofs.«01_k».proof.Proof.Token
public import Idealize.ShloMosaic.Lib.WritesUnit
public import Idealize.ShloMosaic.Lib.Pointwise
public import Idealize.ShloMosaic.Lib.Bf16PairInverse
public import Idealize.ShloMosaic.Lib.VecWindow

@[expose] public section

set_option maxRecDepth 16384

noncomputable section

namespace Cert.Proof.Value

open Cert.KernelIdeal
open Idealize.ShloMosaic Cert.Proof.Token

/-- A strided load of eight pairs of rows, through the view of the transposed tile as pairs of rows, read at an element:
    row `2 (o + 8 s) + h` of the tile. -/
theorem words_read (m7 : Memref sig .tc .vmem S5504x128 .bf16) (hc : m7.view.Contiguous) (f : BufTy.Contents (Elt Ideal) m7.view.ty)
    (o : Fin 3 → Nat) (inb) (O : Nat) (ho : o = ![O, 0, 0]) (s : Fin 8) (h : Fin 2) (l : Fin 128) (hO : O + 8 * s.val < 2752) :
    View.readAt (Elt Ideal) (m7.reshape S2752x2x128 Gen.reshapes_S5504x128_S2752x2x128.1 Gen.reshapes_S5504x128_S2752x2x128.2 hc).view
        (⟨o, S8x2x128.size, ![8, 1, 1], inb⟩ : LoadRect S2752x2x128) f (ix3 s h l)
      = m7.view.read (Elt Ideal) f (ix2 ⟨2 * (O + 8 * s.val) + h.val, by omega⟩ l) := by
  subst ho
  have e : Shape.reshapeEquiv Gen.reshapes_S5504x128_S2752x2x128.1
      ((⟨![O, 0, 0], S8x2x128.size, ![8, 1, 1], inb⟩ : LoadRect S2752x2x128).idx (ix3 s h l))
        = ix2 (⟨2 * (O + 8 * s.val) + h.val, by omega⟩ : Fin 5504) l := by
    refine Shape.reshapeEquiv_eq_of_rowMajor _ ?_
    rw [Shape.rowMajor_val_two, Shape.rowMajor_val_three]
    simp [LoadRect.idx, ix2, ix3]
    omega
  exact congrArg (m7.view.read (Elt Ideal) f) e

/-- A load of a unit-stride box, read at an element: the offset plus the position in the box. -/
theorem unit_read {κ : Kind} {sp : Space} {s : Shape} {e : EltTy} (v : View sig κ sp s e) (f : v.ty.Contents (Elt Ideal)) {off off' size : Fin s.rank → Nat}
    (inb : ∀ a, off a + size a ≤ s.size a) (y : s.Idx) (x : (Rect.unit off size inb).shape.Idx) (heq : off = off')
    (hx : ∀ a, (y a).val = off' a + (x a).val) :
    View.readAt (Elt Ideal) v (Rect.unit off size inb).toLoadRect f x = v.read (Elt Ideal) f y := by
  subst heq
  refine congrArg (v.read (Elt Ideal) f) (funext fun a => Fin.ext ?_)
  rw [hx a]
  show off a + 1 * (x a).val = _
  rw [Nat.one_mul]

theorem parity_max {s t : Shape} (p : Fin 2) (a b : FVec Ideal s .bf16) (h : s.Bitcasts 16 t 32) :
    rowsOfParity p t (maximumf a b) h = maximumf (rowsOfParity p t a h) (rowsOfParity p t b h) := rfl

theorem parity_abs {s t : Shape} (p : Fin 2) (a : FVec Ideal s .bf16) (h : s.Bitcasts 16 t 32) :
    rowsOfParity p t (absf a) h = absf (rowsOfParity p t a h) := rfl

theorem half0 (raw : FVec Ideal S8x2x128 .bf16) (s : Fin 8) (l : Fin 128) :
    shapeCast S8x128 (rowsOfParity 0 S8x1x128 raw Gen.bitcasts_S8x2x128_w16_S8x1x128_w32) Gen.shapeCasts_S8x1x128_S8x128 (ix2 s l)
      = raw (ix3 s 0 l) := by
  pointwise

theorem half1 (raw : FVec Ideal S8x2x128 .bf16) (s : Fin 8) (l : Fin 128) :
    shapeCast S8x128 (rowsOfParity 1 S8x1x128 raw Gen.bitcasts_S8x2x128_w16_S8x1x128_w32) Gen.shapeCasts_S8x1x128_S8x128 (ix2 s l)
      = raw (ix3 s 1 l) := by
  pointwise

/-- The order in which the chunk's body takes the maximum of sixteen values. -/
theorem max16_le_iff (A : Fin 8 → Fin 2 → EReal) (u : EReal) :
    max (max (max (max (max (max (max (max (A 0 0) (A 1 0)) (A 2 0)) (A 3 0)) (A 4 0)) (A 5 0)) (A 6 0)) (A 7 0))
        (max (max (max (max (max (max (max (A 0 1) (A 1 1)) (A 2 1)) (A 3 1)) (A 4 1)) (A 5 1)) (A 6 1)) (A 7 1)) ≤ u
      ↔ ∀ e : Fin 16, A ⟨e.val / 2, by omega⟩ ⟨e.val % 2, by omega⟩ ≤ u := by
  simp only [max_le_iff]
  constructor
  · rintro ⟨⟨⟨⟨⟨⟨⟨⟨_, _⟩, _⟩, _⟩, _⟩, _⟩, _⟩, _⟩, ⟨⟨⟨⟨⟨⟨⟨_, _⟩, _⟩, _⟩, _⟩, _⟩, _⟩, _⟩⟩ e
    fin_cases e <;> assumption
  · intro h
    exact ⟨⟨⟨⟨⟨⟨⟨⟨h 0, h 2⟩, h 4⟩, h 6⟩, h 8⟩, h 10⟩, h 12⟩, h 14⟩,
      ⟨⟨⟨⟨⟨⟨⟨h 1, h 3⟩, h 5⟩, h 7⟩, h 9⟩, h 11⟩, h 13⟩, h 15⟩⟩

/-- The block maxima that a chunk stores, from its eight strided loads: each is the largest absolute value among the
    sixteen values that the loads hold for the block. -/
theorem blockMax_apply (r : Fin 8 → Vec Ideal S8x2x128 .bf16) (s : Fin 8) (l : Fin 128) :
    Gen.k0_pay46 (Gen.k0_pay8 (Gen.k0_pay6 (r 0) (r 1) (r 2)) (r 3) (r 4) (r 5) (r 6) (r 7))
        (Gen.k0_pay9 (Gen.k0_pay6 (r 0) (r 1) (r 2)) (r 3) (r 4) (r 5) (r 6) (r 7)) (ix2 s l)
      = (Finset.univ.sup fun e : Fin 16 =>
          max (r ⟨e.val / 2, by omega⟩ (ix3 s ⟨e.val % 2, by omega⟩ l) : EReal)
            (-(r ⟨e.val / 2, by omega⟩ (ix3 s ⟨e.val % 2, by omega⟩ l) : EReal)) : EReal) := by
  unfold Gen.k0_pay46 Gen.k0_pay8 Gen.k0_pay9 Gen.k0_pay7 Gen.k0_pay6
  simp only [parity_max, parity_abs, rowsOfParity_zero_interleaveRows, rowsOfParity_one_interleaveRows,
    maximumf_apply, absf_apply, extf_apply, half0, half1]
  refine eq_of_forall_ge_iff (α := EReal) fun u => ?_
  simp only [Finset.sup_le_iff, Finset.mem_univ, true_implies]
  simp only [Ideal.maximumf_def, Ideal.absf_def, Ideal.extf_def]
  exact max16_le_iff (fun p h => max (r p (ix3 s h l) : EReal) (-(r p (ix3 s h l) : EReal))) u

/-- What a chunk stores in the tile: the loaded rows, transposed. -/
theorem transposed_apply (v : Vec Ideal S1x128x128 .bf16) (d l : Fin 128) : Gen.k0_pay5 v (ix2 d l) = v (ix3 0 l d) := by
  pointwise [Gen.k0_pay5]

/-- The 5504 values of token `t` of an input block. -/
def row (y : S1x256x5504.Idx → EReal) (t : Fin 256) : Row := fun d => y (ix3 0 t d)

/-- The token in lane `l` of column `c`: a block of 256 tokens is worked on as two columns of 128 lanes. -/
def lane (c : Fin 2) (l : Fin 128) : Fin 256 := ⟨128 * c.val + l.val, by omega⟩

/-- What holds of the transposed tile `t7`, the block maxima `t8` and the running maximum `acc` before chunk `k` of
    column `c`: the first `128 k` rows of the tile and the first `8 k` block maxima are done, and the running maximum of
    sublane `s` covers the blocks done that are `s` modulo 8. -/
def Chunks (y : S1x256x5504.Idx → EReal) (c : Fin 2) (k : Nat) (t7 : S5504x128.Idx → EReal) (t8 : S344x128.Idx → EReal)
    (acc : S8x128.Idx → EReal) : Prop :=
  (∀ (d : Fin 5504) (l : Fin 128), d.val < 128 * k → t7 (ix2 d l) = row y (lane c l) d)
    ∧ (∀ (b : Fin 344) (l : Fin 128), b.val < 8 * k → t8 (ix2 b l) = amax (row y (lane c l)) b)
    ∧ ∀ (s : Fin 8) (l : Fin 128) (u : EReal), acc (ix2 s l) ≤ u ↔
        0 ≤ u ∧ ∀ b : Fin 344, b.val % 8 = s.val → b.val < 8 * k → amax (row y (lane c l)) b ≤ u

/-- One chunk: 128 rows of the tile transposed and stored, eight blocks' maxima taken and stored, the running maximum
    raised. -/
theorem chunk_step (y : S1x256x5504.Idx → EReal) (c : Fin 2) (k : Nat) (hk : k < 43)
    (m3 : Memref sig .tc .vmem S1x256x5504 .bf16) (m7 : Memref sig .tc .vmem S5504x128 .bf16)
    (hc : m7.view.Contiguous) (m8 : Memref sig .tc .vmem S344x128 .f32)
    (X : BufTy.Contents (Elt Ideal) m3.view.ty) (f7 : BufTy.Contents (Elt Ideal) m7.view.ty)
    (f8 : BufTy.Contents (Elt Ideal) m8.view.ty) (acc : FVec Ideal S8x128 .f32)
    (o1 : Fin 3 → Nat) (b1) (e1 : o1 = ![0, 128 * c.val, 128 * k])
    (o2 : Fin 2 → Nat) (b2) (e2 : o2 = ![128 * k, 0])
    (o3 : Fin 8 → Fin 3 → Nat) (b3 : ∀ p : Fin 8, ∀ a, S8x2x128.size a = 0 ∨ o3 p a + (![8, 1, 1] : Fin 3 → Nat) a * (S8x2x128.size a - 1) < S2752x2x128.size a)
    (e3 : ∀ p, o3 p = ![64 * k + p.val, 0, 0])
    (o4 : Fin 2 → Nat) (b4) (e4 : o4 = ![8 * k, 0])
    (hX : m3.view.read (Elt Ideal) X = y)
    (h : Chunks y c k (m7.view.read (Elt Ideal) f7) (m8.view.read (Elt Ideal) f8) acc)
    (L7 : List (View.Piece (Elt Ideal) S5504x128 .bf16))
    (hL7 : L7 = [⟨Rect.unit (s := S5504x128) o2 S128x128.size b2,
      Gen.k0_pay5 (View.readAt (Elt Ideal) m3.view (Rect.unit (s := S1x256x5504) o1 S1x128x128.size b1).toLoadRect X)⟩])
    (r : Fin 8 → Vec Ideal S8x2x128 .bf16)
    (hr : ∀ p, r p = View.readAt (Elt Ideal) (m7.reshape S2752x2x128 Gen.reshapes_S5504x128_S2752x2x128.1 Gen.reshapes_S5504x128_S2752x2x128.2 hc).view
        (⟨o3 p, S8x2x128.size, ![8, 1, 1], b3 p⟩ : LoadRect S2752x2x128) (m7.view.writes (Elt Ideal) f7 L7))
    (hi : FVec Ideal S8x128 .bf16) (hhi : hi = Gen.k0_pay8 (Gen.k0_pay6 (r 0) (r 1) (r 2)) (r 3) (r 4) (r 5) (r 6) (r 7))
    (lo : FVec Ideal S8x128 .f32) (hlo : lo = Gen.k0_pay9 (Gen.k0_pay6 (r 0) (r 1) (r 2)) (r 3) (r 4) (r 5) (r 6) (r 7)) :
    Chunks y c (k + 1) (m7.view.read (Elt Ideal) (m7.view.writes (Elt Ideal) f7 L7))
      (m8.view.read (Elt Ideal) (m8.view.writes (Elt Ideal) f8 [⟨Rect.unit (s := S344x128) o4 S8x128.size b4, Gen.k0_pay47 hi lo⟩]))
      (Gen.k0_pay48 acc hi lo) := by
  obtain ⟨h7, h8, ha⟩ := h
  -- the tile's first 128 (k + 1) rows
  have t7 : ∀ (d : Fin 5504) (l : Fin 128), d.val < 128 * (k + 1) →
      m7.view.read (Elt Ideal) (m7.view.writes (Elt Ideal) f7 L7) (ix2 d l) = row y (lane c l) d := by
    intro d l hd
    subst hL7
    by_cases hn : d.val < 128 * k
    · rw [View.read_writes_cons_unit_of_not_mem m7.view f7 b2 _ [] (ix2 d l) e2 (0 : Fin 2) (Or.inl hn)]
      exact h7 d l hn
    · have hd' : d.val - 128 * k < 128 := by omega
      rw [View.read_writes_cons_unit_of_mem m7.view f7 b2 _ [] (ix2 d l) (ix2 (⟨d.val - 128 * k, hd'⟩ : Fin 128) l) e2
        (Fin.forall_fin_two.mpr ⟨by show d.val = 128 * k + (d.val - 128 * k); omega, by show l.val = 0 + l.val; omega⟩)]
      rw [transposed_apply]
      refine (unit_read m3.view X b1 (ix3 (0 : Fin 1) (lane c l) d) _ e1 ?_).trans (congrFun hX _)
      intro a
      fin_cases a
      · rfl
      · rfl
      · show d.val = 128 * k + (d.val - 128 * k); omega
  -- the eight blocks' maxima
  have new : ∀ (s : Fin 8) (l : Fin 128), (Gen.k0_pay46 hi lo (ix2 s l) : EReal) = amax (row y (lane c l)) ⟨8 * k + s.val, by omega⟩ := by
    intro s l
    rw [hhi, hlo, blockMax_apply]
    refine congrArg (Finset.univ.sup) (funext fun e => ?_)
    have he : ∀ (p : Fin 8) (h : Fin 2), p.val = e.val / 2 → h.val = e.val % 2 →
        (r p (ix3 s h l) : EReal) = row y (lane c l) (pos ⟨8 * k + s.val, by omega⟩ e) := by
      intro p h hp hh
      rw [hr p, words_read m7 hc _ _ (b3 p) (64 * k + p.val) (e3 p) s h l (by omega)]
      rw [t7 _ l (by show 2 * (64 * k + p.val + 8 * s.val) + h.val < _; omega)]
      refine congrArg (row y (lane c l)) (Fin.ext ?_)
      show 2 * (64 * k + p.val + 8 * s.val) + h.val = 16 * (8 * k + s.val) + e.val
      omega
    rw [he _ _ rfl rfl]
  refine ⟨t7, ?_, ?_⟩
  · intro b l hb
    by_cases hn : b.val < 8 * k
    · rw [View.read_writes_cons_unit_of_not_mem m8.view f8 b4 _ [] (ix2 b l) e4 (0 : Fin 2) (Or.inl hn)]
      exact h8 b l hn
    · have hb' : b.val - 8 * k < 8 := by omega
      rw [View.read_writes_cons_unit_of_mem m8.view f8 b4 _ [] (ix2 b l) (ix2 (⟨b.val - 8 * k, hb'⟩ : Fin 8) l) e4
        (Fin.forall_fin_two.mpr ⟨by show b.val = 8 * k + (b.val - 8 * k); omega, by show l.val = 0 + l.val; omega⟩)]
      have e47 : Gen.k0_pay47 hi lo = Gen.k0_pay46 hi lo := by
        funext j; pointwise [Gen.k0_pay47]
      rw [e47]
      refine (new _ l).trans (congrArg (amax (row y (lane c l))) (Fin.ext ?_))
      show 8 * k + (b.val - 8 * k) = b.val
      omega
  · intro s l u
    have e48 : (Gen.k0_pay48 acc hi lo (ix2 s l) : EReal) = max (acc (ix2 s l) : EReal) (Gen.k0_pay46 hi lo (ix2 s l) : EReal) := rfl
    rw [e48, new s l, max_le_iff, ha s l u]
    constructor
    · rintro ⟨⟨h0, hb⟩, hnew⟩
      refine ⟨h0, fun b hs hlt => ?_⟩
      by_cases hn : b.val < 8 * k
      · exact hb b hs hn
      · have : b = ⟨8 * k + s.val, by omega⟩ := Fin.ext (by show b.val = 8 * k + s.val; omega)
        rw [this]; exact hnew
    · rintro ⟨h0, hb⟩
      exact ⟨⟨h0, fun b hs hlt => hb b hs (by omega)⟩, hb _ (by show (8 * k + s.val) % 8 = s.val; omega) (by show 8 * k + s.val < _; omega)⟩

end Cert.Proof.Value
-- ==== Proof.ChunkLoops.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic
public import proofs.«01_k».proof.Proof.ChunkValue

/-! # The two chunk loops

Each column's chunk loop runs over 43 chunks of 128 values of every token, by the invariant `Chunks`: how far the
transposed tile and the block maxima are filled, and what the running maximum covers. -/

@[expose] public section

set_option maxRecDepth 8192

noncomputable section

namespace Cert.Proof.Value

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Proof.Token

/-- Before the first chunk nothing is filled, and the running maximum is zero. -/
@[simp] theorem chunks_zero (y : S1x256x5504.Idx → EReal) (c : Fin 2) (t7 : S5504x128.Idx → EReal) (t8 : S344x128.Idx → EReal) :
    Chunks y c 0 t7 t8 (Gen.k0_pay45 (F := Ideal)) := by
  refine ⟨fun d l h => by omega, fun b l h => by omega, fun s l u => ?_⟩
  have e : (Gen.k0_pay45 (F := Ideal) (ix2 s l) : EReal) = 0 := by
    pointwise [Gen.k0_pay45]
  rw [e]
  exact ⟨fun h => ⟨h, fun b _ hb => by omega⟩, fun h => h.1⟩

@[simp] theorem chunks_zero' (y : S1x256x5504.Idx → EReal) (c : Fin 2) (t7 : S5504x128.Idx → EReal) (t8 : S344x128.Idx → EReal) :
    Chunks y c 0 t7 t8 (Gen.k0_pay58 (F := Ideal)) := chunks_zero y c t7 t8

/-- What a chunk loop holds before trip `k`: the input block at `X`, the tile and the block maxima filled so far. -/
abbrev chunkInv (c : Dev nD) (arg3 : Memref sig .tc .vmem S1x256x5504 .bf16) (arg7 : Memref sig .tc .vmem S5504x128 .bf16) (arg8 : Memref sig .tc .vmem S344x128 .f32)
    (X : BufTy.Contents (Elt Ideal) arg3.view.ty) (col : Fin 2) (k : Nat) (acc : FVec Ideal S8x128 .f32) : sProp 𝕄G :=
  iprop((arg3.view.loc (c : Thread nD τ) ↦[arg3.view.set]{fullShare} X)
    ∗ (∃ f7, (arg7.view.loc (c : Thread nD τ) ↦[arg7.view.set]{fullShare} f7)
    ∗ (∃ f8, (arg8.view.loc (c : Thread nD τ) ↦[arg8.view.set]{fullShare} f8)
    ∗ ⌜Chunks (arg3.view.read (Elt Ideal) X) col k (arg7.view.read (Elt Ideal) f7) (arg8.view.read (Elt Ideal) f8) acc⌝)))

theorem off1_eq : ∀ k : Fin k0_t1_loop.trips, k0_off1 k = ![0, 128 * (0 : Fin 2).val, 128 * k.val] := by decide +kernel
theorem off2_eq : ∀ k : Fin k0_t1_loop.trips, k0_off2 k = ![128 * k.val, 0] := by decide +kernel
theorem off3_eq : ∀ (k : Fin k0_t1_loop.trips) (p : Fin 8), k0_off3 k (BitVec.ofNat 32 p.val) = ![64 * k.val + p.val, 0, 0] := by decide +kernel
theorem off4_eq : ∀ k : Fin k0_t1_loop.trips, k0_off4 k = ![8 * k.val, 0] := by decide +kernel

set_option maxHeartbeats 4000000 in
/-- A trip of column 0's chunk loop does one chunk. -/
theorem chunk_trip_t1 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole)
    (X : BufTy.Contents (Elt Ideal) arg3.view.ty) (k : Fin k0_t1_loop.trips) (acc : FVec Ideal S8x128 .f32) :
    chunkInv c arg3 arg7 arg8 X 0 k.val acc
      ⊢ wp frame (wpE (defs₀ (F := Ideal)) Variants.none (c : Thread nD τ) none) Set.univ
          (Cert.KernelIdeal.Gen.k0_t1_body (F := Ideal) i arg3 harg3 arg4 harg4 arg5 harg5 arg6 harg6 arg7 harg7 arg8 harg8 arg9 harg9 k acc)
          (fun acc' => chunkInv c arg3 arg7 arg8 X 0 (k.val + 1) acc') := by
  have hk : k.val < 43 := Nat.lt_of_lt_of_le k.isLt Cert.KernelIdeal.Gen.k0_t1_abs.2.1
  unfold Cert.KernelIdeal.Gen.k0_t1_body
  iintro ⟨H3, ⟨%f7, H7, ⟨%f8, H8, %hP⟩⟩⟩
  sl_exec
  sl_step
  isplitl [H3]; · iexact H3
  iexists _
  isplitl [H7]; · iexact H7
  iexists _
  isplitl [H8]; · iexact H8
  ipureintro
  exact chunk_step _ 0 k.val hk arg3 arg7 harg7.contiguous arg8 X f7 f8 acc
    (k0_off1 k) (Gen.k0_off1_inb k) (off1_eq k) (k0_off2 k) (Gen.k0_off2_inb k) (off2_eq k)
    (fun p => k0_off3 k (BitVec.ofNat 32 p.val)) (Gen.k0_off3_inb k) (off3_eq k) (k0_off4 k) (Gen.k0_off4_inb k) (off4_eq k)
    rfl hP _ rfl _ (fun p => rfl) _ rfl _ rfl

set_option warn.classDefReducibility false in
/-- Column 0's chunk loop by `chunkInv`. -/
@[sl_loop] def chunkLoop_t1 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (init : FVec Ideal S8x128 .f32)
    (X : BufTy.Contents (Elt Ideal) arg3.view.ty) :
    Cert.KernelIdeal.Gen.LoopInvTy_k0_t1 (F := Ideal) Unit ℕ (UR sig nD τ) ℕ Variants.none c none Set.univ i arg3 harg3 arg4 harg4 arg5 harg5 arg6 harg6 arg7 harg7 arg8 harg8 arg9 harg9 init where
  inv := fun k acc => chunkInv c arg3 arg7 arg8 X 0 k acc
  step := fun k acc => chunk_trip_t1 c i arg3 harg3 arg4 harg4 arg5 harg5 arg6 harg6 arg7 harg7 arg8 harg8 arg9 harg9 X k acc

theorem off8_eq : ∀ k : Fin k0_t3_loop.trips, k0_off8 k = ![0, 128 * (1 : Fin 2).val, 128 * k.val] := by decide +kernel
theorem off9_eq : ∀ k : Fin k0_t3_loop.trips, k0_off9 k = ![128 * k.val, 0] := by decide +kernel
theorem off10_eq : ∀ (k : Fin k0_t3_loop.trips) (p : Fin 8), k0_off10 k (BitVec.ofNat 32 p.val) = ![64 * k.val + p.val, 0, 0] := by decide +kernel
theorem off11_eq : ∀ k : Fin k0_t3_loop.trips, k0_off11 k = ![8 * k.val, 0] := by decide +kernel

set_option maxHeartbeats 4000000 in
/-- A trip of column 1's chunk loop does one chunk. -/
theorem chunk_trip_t3 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (arg2 : BitVec 32) (v32 : FVec Ideal S344x128 .f32) (cst_15 : Ideal .f32)
    (X : BufTy.Contents (Elt Ideal) arg3.view.ty) (k : Fin k0_t3_loop.trips) (acc : FVec Ideal S8x128 .f32) :
    chunkInv c arg3 arg7 arg8 X 1 k.val acc
      ⊢ wp frame (wpE (defs₀ (F := Ideal)) Variants.none (c : Thread nD τ) none) Set.univ
          (Cert.KernelIdeal.Gen.k0_t3_body (F := Ideal) i arg3 harg3 arg4 harg4 arg5 harg5 arg6 harg6 arg7 harg7 arg8 harg8 arg9 harg9 arg2 v32 cst_15 k acc)
          (fun acc' => chunkInv c arg3 arg7 arg8 X 1 (k.val + 1) acc') := by
  have hk : k.val < 43 := Nat.lt_of_lt_of_le k.isLt Cert.KernelIdeal.Gen.k0_t3_abs.2.1
  unfold Cert.KernelIdeal.Gen.k0_t3_body
  iintro ⟨H3, ⟨%f7, H7, ⟨%f8, H8, %hP⟩⟩⟩
  sl_exec
  sl_step
  isplitl [H3]; · iexact H3
  iexists _
  isplitl [H7]; · iexact H7
  iexists _
  isplitl [H8]; · iexact H8
  ipureintro
  exact chunk_step _ 1 k.val hk arg3 arg7 harg7.contiguous arg8 X f7 f8 acc
    (k0_off8 k) (Gen.k0_off8_inb k) (off8_eq k) (k0_off9 k) (Gen.k0_off9_inb k) (off9_eq k)
    (fun p => k0_off10 k (BitVec.ofNat 32 p.val)) (Gen.k0_off10_inb k) (off10_eq k) (k0_off11 k) (Gen.k0_off11_inb k) (off11_eq k)
    rfl hP _ rfl _ (fun p => rfl) _ rfl _ rfl

set_option warn.classDefReducibility false in
/-- Column 1's chunk loop by `chunkInv`. -/
@[sl_loop] def chunkLoop_t3 (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (arg2 : BitVec 32) (v32 : FVec Ideal S344x128 .f32) (cst_15 : Ideal .f32) (init : FVec Ideal S8x128 .f32)
    (X : BufTy.Contents (Elt Ideal) arg3.view.ty) :
    Cert.KernelIdeal.Gen.LoopInvTy_k0_t3 (F := Ideal) Unit ℕ (UR sig nD τ) ℕ Variants.none c none Set.univ i arg3 harg3 arg4 harg4 arg5 harg5 arg6 harg6 arg7 harg7 arg8 harg8 arg9 harg9 arg2 v32 cst_15 init where
  inv := fun k acc => chunkInv c arg3 arg7 arg8 X 1 k acc
  step := fun k acc => chunk_trip_t3 c i arg3 harg3 arg4 harg4 arg5 harg5 arg6 harg6 arg7 harg7 arg8 harg8 arg9 harg9 arg2 v32 cst_15 X k acc

end Cert.Proof.Value
-- ==== Proof.Nibbles.lean ====
module

public import proofs.«01_k».proof.Proof.E2M1
public import Idealize.ShloMosaic.Lib.BitcastFour

@[expose] public section

/-! # Eight codes in a word

Eight 4-bit codes joined in a 32-bit word, first code lowest; the clean-up that drops the sign of each zero code works
on the whole word, and acts on every nibble alone, for no nibble's sum carries. A byte of the word is two codes. -/

namespace Cert.Proof.Nibbles

open Idealize.ShloMosaic Cert.Proof.E2M1

/-- Eight words of which each holds one code, shifted to their places and joined. -/
def pack (w : Fin 8 → BitVec 32) : BitVec 32 :=
  w 0 ||| w 1 <<< 4 ||| w 2 <<< 8 ||| w 3 <<< 12 ||| w 4 <<< 16 ||| w 5 <<< 20 ||| w 6 <<< 24 ||| w 7 <<< 28

/-- The eight codes side by side. -/
def join (c : Fin 8 → BitVec 4) : BitVec 32 := c 7 ++ (c 6 ++ (c 5 ++ (c 4 ++ (c 3 ++ (c 2 ++ (c 1 ++ c 0))))))

/-- The clean-up, on the word: where a nibble's low three bits are zero, its sign bit is cleared. -/
def cleanWord (w : BitVec 32) : BitVec 32 := w &&& ((w &&& 2004318071#32) + 2004318071#32 ||| 2004318071#32)

theorem pack_eq_join (c : Fin 8 → BitVec 4) : pack (fun q => (c q).setWidth 32) = join c := by
  have past (x : BitVec 4) (i : Nat) (h : 4 ≤ i) : x.getLsbD i = false := BitVec.getLsbD_of_ge x i h
  apply BitVec.eq_of_getLsbD_eq
  intro i hi
  simp only [pack, join, BitVec.getLsbD_or, BitVec.getLsbD_shiftLeft, BitVec.getLsbD_setWidth, BitVec.getLsbD_append]
  interval_cases i <;> simp [past]

/-- Two words side by side add by halves where the low halves do not carry. -/
theorem append_add_append {m n : Nat} (a b : BitVec m) (x y : BitVec n) (h : x.toNat + y.toNat < 2 ^ n) :
    (a ++ x) + (b ++ y) = (a + b) ++ (x + y) := by
  apply BitVec.eq_of_toNat_eq
  have key : ∀ (u : BitVec m) (v : BitVec n), (u ++ v).toNat = u.toNat * 2 ^ n + v.toNat := by
    intro u v
    rw [BitVec.toNat_append, ← Nat.shiftLeft_add_eq_or_of_lt v.isLt, Nat.shiftLeft_eq]
  rw [BitVec.toNat_add, key, key, key, BitVec.toNat_add, BitVec.toNat_add, Nat.mod_eq_of_lt h, Nat.pow_add,
    show a.toNat * 2 ^ n + x.toNat + (b.toNat * 2 ^ n + y.toNat) = (x.toNat + y.toNat) + 2 ^ n * (a.toNat + b.toNat) by ring,
    Nat.mul_comm (2 ^ m) (2 ^ n), Nat.mod_mul, Nat.add_mul_mod_self_left, Nat.mod_eq_of_lt h,
    Nat.add_mul_div_left _ _ (Nat.two_pow_pos n), Nat.div_eq_of_lt h, Nat.zero_add]
  ring

/-- The clean-up at any width, with its constant `K`. -/
def cleanBy {n : Nat} (K w : BitVec n) : BitVec n := w &&& ((w &&& K) + K ||| K)

/-- The sum in the clean-up with the constant `K` does not carry out. -/
def Low {n : Nat} (K : BitVec n) : Prop := ∀ x : BitVec n, (x &&& K).toNat + K.toNat < 2 ^ n

theorem low_seven : Low 7#4 := by
  unfold Low; decide

theorem low_append {n : Nat} {K : BitVec n} (h : Low K) : Low (7#4 ++ K) := by
  intro u
  obtain ⟨a, x, rfl⟩ : ∃ (a : BitVec 4) (x : BitVec n), u = a ++ x :=
    ⟨u.extractLsb' n 4, u.extractLsb' 0 n, by
      apply BitVec.eq_of_getLsbD_eq
      intro i hi
      rw [BitVec.getLsbD_append, BitVec.getLsbD_extractLsb', BitVec.getLsbD_extractLsb']
      split
      · next hlt => simp [hlt]
      · next hge => rw [Nat.add_sub_cancel' (by omega)]; simp; omega⟩
  have key : ∀ (u : BitVec 4) (v : BitVec n), (u ++ v).toNat = u.toNat * 2 ^ n + v.toNat := by
    intro u v
    rw [BitVec.toNat_append, ← Nat.shiftLeft_add_eq_or_of_lt v.isLt, Nat.shiftLeft_eq]
  have ha := low_seven a
  have hx := h x
  rw [BitVec.and_append, key, key, Nat.pow_add]
  calc (a &&& 7#4).toNat * 2 ^ n + (x &&& K).toNat + ((7#4 : BitVec 4).toNat * 2 ^ n + K.toNat)
      = ((a &&& 7#4).toNat + (7#4 : BitVec 4).toNat) * 2 ^ n + ((x &&& K).toNat + K.toNat) := by ring
    _ < ((a &&& 7#4).toNat + (7#4 : BitVec 4).toNat) * 2 ^ n + 2 ^ n := by omega
    _ = ((a &&& 7#4).toNat + (7#4 : BitVec 4).toNat + 1) * 2 ^ n := by ring
    _ ≤ 2 ^ 4 * 2 ^ n := Nat.mul_le_mul_right _ ha

/-- The clean-up acts on the highest nibble and on the rest alone. -/
theorem cleanBy_append {n : Nat} {K : BitVec n} (h : Low K) (a : BitVec 4) (x : BitVec n) :
    cleanBy (7#4 ++ K) (a ++ x) = clean a ++ cleanBy K x := by
  unfold cleanBy clean
  rw [BitVec.and_append, append_add_append _ _ _ _ (h x), BitVec.or_append, BitVec.and_append]

theorem cleanWord_join (c : Fin 8 → BitVec 4) : cleanWord (join c) = join (fun q => clean (c q)) := by
  have h1 := low_seven
  have h2 := low_append h1
  have h3 := low_append h2
  have h4 := low_append h3
  have h5 := low_append h4
  have h6 := low_append h5
  have h7 := low_append h6
  refine (cleanBy_append h7 (c 7) _).trans (congrArg (clean (c 7) ++ ·) ?_)
  refine (cleanBy_append h6 (c 6) _).trans (congrArg (clean (c 6) ++ ·) ?_)
  refine (cleanBy_append h5 (c 5) _).trans (congrArg (clean (c 5) ++ ·) ?_)
  refine (cleanBy_append h4 (c 4) _).trans (congrArg (clean (c 4) ++ ·) ?_)
  refine (cleanBy_append h3 (c 3) _).trans (congrArg (clean (c 3) ++ ·) ?_)
  refine (cleanBy_append h2 (c 2) _).trans (congrArg (clean (c 2) ++ ·) ?_)
  exact cleanBy_append h1 (c 1) _

/-- A byte of eight codes is two of them, the odd one high. -/
theorem byte_join (c : Fin 8 → BitVec 4) (p : Fin 4) :
    (join c).extractLsb' (8 * p.val) 8 = c ⟨2 * p.val + 1, by omega⟩ ++ c ⟨2 * p.val, by omega⟩ := by
  apply BitVec.eq_of_getLsbD_eq
  intro i hi
  simp only [join, BitVec.getLsbD_extractLsb', BitVec.getLsbD_append]
  match p with
  | 0 => interval_cases i <;> simp
  | 1 => interval_cases i <;> simp
  | 2 => interval_cases i <;> simp
  | 3 => interval_cases i <;> simp

/-- A word of eight raw codes of reals, cleaned, has for its bytes the cleaned codes, two by two. -/
theorem byte_clean_pack (r : Fin 8 → ℝ) (p : Fin 4) :
    (cleanWord (pack fun q => rawCode (r q))).extractLsb' (8 * p.val) 8
      = code (r ⟨2 * p.val + 1, by omega⟩) ++ code (r ⟨2 * p.val, by omega⟩) := by
  choose c hc hd using fun q => rawCode_coe (r q)
  simp only [hc, pack_eq_join, cleanWord_join, byte_join, hd]

/-- Thirty-two-bit words read as bytes: byte row `R` of a lane is byte `R % 4` of word row `R / 4`. -/
theorem bitcast_32_8_ix2 {R r n : Nat} (x : (⟨2, ![r, n]⟩ : Shape).Idx → BitVec 32)
    (h : (⟨2, ![r, n]⟩ : Shape).Bitcasts 32 ⟨2, ![R, n]⟩ 8) (a : Fin R) (l : Fin n) (i : Fin r) (p : Fin 4)
    (hp : a.val = 4 * i.val + p.val) :
    bitcast ⟨2, ![R, n]⟩ 8 x h (ValueIdx.ix2 a l) = (x (ValueIdx.ix2 i l)).extractLsb' (8 * p.val) 8 := by
  apply BitVec.eq_of_getLsbD_eq
  intro q hq
  rw [bitcast_getLsbD x h _ q hq (by decide), BitVec.getLsbD_extractLsb']
  have er : Shape.row (⟨2, ![R, n]⟩ : Shape) (ValueIdx.ix2 a l) = a.val := rfl
  have e1 : (a.val * 8 + q) / 32 = i.val := by omega
  have e2 : (a.val * 8 + q) % 32 = 8 * p.val + q := by omega
  simp only [er, e2, hq, decide_true, Bool.true_and]
  congr 2
  funext c
  match c with
  | ⟨0, _⟩ => exact Fin.ext ((h.srcIdx_row _ _ _ ⟨0, Nat.zero_lt_two⟩ rfl).trans (by simpa only [er] using e1))
  | ⟨1, _⟩ => exact Fin.ext (h.srcIdx_other _ _ _ ⟨1, Nat.one_lt_two⟩ (by show ¬ 1 + 2 = 2; omega))

end Cert.Proof.Nibbles
-- ==== Proof.PackValue.lean ====
module

public import proofs.«01_k».proof.Proof.Gen.KernelIdeal.Skeleton
public import proofs.«01_k».proof.Proof.Token
public import proofs.«01_k».proof.Proof.Nibbles
public import Idealize.ShloMosaic.Lib.Pointwise
public import Idealize.ShloMosaic.Lib.IdealHost
public import Idealize.ShloMosaic.Lib.Pipeline.Value

@[expose] public section

set_option maxRecDepth 16384

noncomputable section

namespace Cert.Proof.Value

open Cert.KernelIdeal
open Idealize.ShloMosaic Cert.Proof.Token Cert.Proof.E2M1 Cert.Proof.Nibbles

theorem c_quarter : Ideal.ofBits .f32 0x3E800000#32 = ((1 / 4 : ℝ) : EReal) := by
  simp [Ideal.ofBits, Ideal.ieee, -EReal.coe_mul]; norm_num
theorem c_3_4 : Ideal.ofBits .f32 0x3F400000#32 = ((3 / 4 : ℝ) : EReal) := by
  simp [Ideal.ofBits, Ideal.ieee, -EReal.coe_mul]; norm_num
theorem c_5_4 : Ideal.ofBits .f32 0x3FA00000#32 = ((5 / 4 : ℝ) : EReal) := by
  simp [Ideal.ofBits, Ideal.ieee, -EReal.coe_mul]; norm_num
theorem c_7_4 : Ideal.ofBits .f32 0x3FE00000#32 = ((7 / 4 : ℝ) : EReal) := by
  simp [Ideal.ofBits, Ideal.ieee, -EReal.coe_mul]; norm_num
theorem c_5_2 : Ideal.ofBits .f32 0x40200000#32 = ((5 / 2 : ℝ) : EReal) := by
  simp [Ideal.ofBits, Ideal.ieee, -EReal.coe_mul]; norm_num
theorem c_7_2 : Ideal.ofBits .f32 0x40600000#32 = ((7 / 2 : ℝ) : EReal) := by
  simp [Ideal.ofBits, Ideal.ieee, -EReal.coe_mul]; norm_num
theorem c_5 : Ideal.ofBits .f32 0x40A00000#32 = ((5 : ℝ) : EReal) := by
  simp [Ideal.ofBits, Ideal.ieee, -EReal.coe_mul]; norm_num
theorem c_6 : Ideal.ofBits .f32 0x40C00000#32 = ((6 : ℝ) : EReal) := by
  simp [Ideal.ofBits, Ideal.ieee, -EReal.coe_mul]; norm_num
theorem c_neg6 : Ideal.ofBits .f32 0xC0C00000#32 = ((-6 : ℝ) : EReal) := by
  simp [Ideal.ofBits, Ideal.ieee, -EReal.coe_mul, -EReal.coe_neg]; norm_num
theorem c_448 : Ideal.ofBits .f32 0x43E00000#32 = ((448 : ℝ) : EReal) := by
  simp [Ideal.ofBits, Ideal.ieee, -EReal.coe_mul]; norm_num
theorem c_0 : Ideal.ofBits .f32 0x00000000#32 = 0 := by simp [Ideal.ofBits, Ideal.ieee]

/-- A truth value widened to a word. -/
theorem setWidth_ofBool (p : Prop) [Decidable p] : (BitVec.ofBool (decide p)).setWidth 32 = if p then 1#32 else 0#32 := by
  split <;> next h => simp [h]

theorem select_ofBool {α : Type} (p : Prop) [Decidable p] (a b : α) :
    (if BitVec.ofBool (decide p) = 1 then a else b) = if p then a else b := by
  split <;> split <;> simp_all

/-- The count that a value's code starts from, as the program takes it. -/
theorem rawCode_eq (v : EReal) :
    ((((((((if BitVec.ofBool (decide (v < Ideal.ofBits .f32 0x00000000#32)) = 1 then 8#32 else 0#32)
      + (BitVec.ofBool (decide (Ideal.ofBits .f32 0x3E800000#32 < max v (-v)))).setWidth 32)
      + (BitVec.ofBool (decide (Ideal.ofBits .f32 0x3F400000#32 ≤ max v (-v)))).setWidth 32)
      + (BitVec.ofBool (decide (Ideal.ofBits .f32 0x3FA00000#32 < max v (-v)))).setWidth 32)
      + (BitVec.ofBool (decide (Ideal.ofBits .f32 0x3FE00000#32 ≤ max v (-v)))).setWidth 32)
      + (BitVec.ofBool (decide (Ideal.ofBits .f32 0x40200000#32 < max v (-v)))).setWidth 32)
      + (BitVec.ofBool (decide (Ideal.ofBits .f32 0x40600000#32 ≤ max v (-v)))).setWidth 32)
      + (BitVec.ofBool (decide (Ideal.ofBits .f32 0x40A00000#32 < max v (-v)))).setWidth 32) = rawCode v := by
  simp only [c_0, c_quarter, c_3_4, c_5_4, c_7_4, c_5_2, c_7_2, c_5, setWidth_ofBool, select_ofBool]
  rfl

theorem pay10_apply (v : Vec Ideal S16x128 .bf16) (w : Vec Ideal S1x128 .f32) (e : Fin 16) (l : Fin 128) :
    (Gen.k0_pay10 v w (ix2 e l) : EReal) = clip ((v (ix2 e l) : EReal) * (w (ix2 0 l) : EReal)) := by
  unfold clip
  rw [← c_6, ← c_neg6]
  pointwise [Gen.k0_pay10]

/-- Row `d` of the group's 64 scaled rows is row `d % 16` of load `d / 16`. -/
theorem pay14_apply (v : Fin 4 → Vec Ideal S16x128 .bf16) (w : Fin 4 → Vec Ideal S1x128 .f32) (d : Fin 64) (l : Fin 128) :
    (Gen.k0_pay14 (Gen.k0_pay10 (v 0) (w 0)) (Gen.k0_pay11 (v 1) (w 1)) (Gen.k0_pay12 (v 2)) (Gen.k0_pay13 (w 2)) (v 3) (w 3) (ix2 d l) : EReal)
      = clip ((v ⟨d.val / 16, by omega⟩ (ix2 ⟨d.val % 16, by omega⟩ l) : EReal) * (w ⟨d.val / 16, by omega⟩ (ix2 0 l) : EReal)) := by
  have e11 : Gen.k0_pay11 (v 1) (w 1) = Gen.k0_pay10 (v 1) (w 1) := rfl
  have e14 : Gen.k0_pay14 (Gen.k0_pay10 (v 0) (w 0)) (Gen.k0_pay11 (v 1) (w 1)) (Gen.k0_pay12 (v 2)) (Gen.k0_pay13 (w 2)) (v 3) (w 3)
      = concatenate S64x128 0 (List.ofFn fun q : Fin 4 => ⟨S16x128, Gen.k0_pay10 (v q) (w q)⟩)
          Gen.concatenates_S16x128_S16x128_S16x128_S16x128_S64x128_d0 := rfl
  rw [e14]
  refine Eq.trans ?_ (pay10_apply _ _ _ _)
  refine concatenate_ofFn_apply (t := S64x128) (s₁ := S16x128) (0 : Fin 2) (fun q : Fin 4 => Gen.k0_pay10 (v q) (w q)) _ rfl 16 rfl (ix2 d l : S64x128.Idx) ⟨d.val / 16, by omega⟩ rfl
    (ix2 ⟨d.val % 16, by omega⟩ l) rfl ?_
  intro b hb
  fin_cases b
  · exact absurd rfl hb
  · rfl

/-- The raw codes of the group's 64 rows. -/
theorem codes_eq (v100 v115 v122 v125 : FVec Ideal S16x128 .f32) (v136 : Vec Ideal S16x128 .bf16) (v139 : Vec Ideal S1x128 .f32) (j : S64x128.Idx) :
    addi (addi (addi (addi (addi (addi (addi (Gen.k0_pay16 v100 v115 v122 v125 v136 v139)
      (extui 32 (Gen.k0_pay17 v100 v115 v122 v125 v136 v139) Gen.natLt_1_32))
      (extui 32 (Gen.k0_pay18 v100 v115 v122 v125 v136 v139) Gen.natLt_1_32))
      (extui 32 (Gen.k0_pay19 v100 v115 v122 v125 v136 v139) Gen.natLt_1_32))
      (extui 32 (Gen.k0_pay20 v100 v115 v122 v125 v136 v139) Gen.natLt_1_32))
      (extui 32 (Gen.k0_pay21 v100 v115 v122 v125 v136 v139) Gen.natLt_1_32))
      (extui 32 (Gen.k0_pay22 v100 v115 v122 v125 v136 v139) Gen.natLt_1_32))
      (extui 32 (Gen.k0_pay23 v100 v115 v122 v125 v136 v139) Gen.natLt_1_32) j
      = rawCode (Gen.k0_pay14 v100 v115 v122 v125 v136 v139 j) :=
  rawCode_eq (Gen.k0_pay14 v100 v115 v122 v125 v136 v139 j)

/-- Row `8 i + q` of a 64-row vector of words, taken as nibble `q` of word row `i`. -/
theorem nibble_apply (x : IVec S64x128 32) (q : Fin 8) (o : Fin 3 → Nat) (ho : o = ![0, q.val, 0]) (h) (i : Fin 8) (l : Fin 128) :
    shapeCast S8x128 (extractStridedSlice S8x1x128 o (shapeCast S8x8x128 x Gen.shapeCasts_S64x128_S8x8x128) h)
      Gen.shapeCasts_S8x1x128_S8x128 (ix2 i l) = x (ix2 ⟨8 * i.val + q.val, by omega⟩ l) := by
  subst ho
  have e : (⟨8 * i.val + q.val, by omega⟩ : Fin 64) = ⟨i.val * 8 + q.val, by omega⟩ := Fin.ext (by show 8 * i.val + q.val = i.val * 8 + q.val; omega)
  rw [e]
  pointwise

/-- A packed word is made from the codes of eight rows. -/
theorem pay24_apply (v152 : IVec S64x128 32) (v154 v156 v158 v160 v162 v164 v166 : IVec S64x128 1) (i : Fin 8) (l : Fin 128) :
    Gen.k0_pay24 v152 v154 v156 v158 v160 v162 v164 v166 (ix2 i l) = pack fun q =>
      addi (addi (addi (addi (addi (addi (addi v152 (extui 32 v154 Gen.natLt_1_32)) (extui 32 v156 Gen.natLt_1_32)) (extui 32 v158 Gen.natLt_1_32))
        (extui 32 v160 Gen.natLt_1_32)) (extui 32 v162 Gen.natLt_1_32)) (extui 32 v164 Gen.natLt_1_32)) (extui 32 v166 Gen.natLt_1_32)
        (ix2 ⟨8 * i.val + q.val, by omega⟩ l) := by
  unfold Gen.k0_pay24
  generalize addi (addi (addi (addi (addi (addi (addi v152 (extui 32 v154 Gen.natLt_1_32)) (extui 32 v156 Gen.natLt_1_32)) (extui 32 v158 Gen.natLt_1_32))
        (extui 32 v160 Gen.natLt_1_32)) (extui 32 v162 Gen.natLt_1_32)) (extui 32 v164 Gen.natLt_1_32)) (extui 32 v166 Gen.natLt_1_32) = x
  have n0 := nibble_apply x 0 ![0, 0, 0] rfl Gen.slices_S8x8x128_o0_0_0_S8x1x128 i l
  have n1 := nibble_apply x 1 ![0, 1, 0] rfl Gen.slices_S8x8x128_o0_1_0_S8x1x128 i l
  have n2 := nibble_apply x 2 ![0, 2, 0] rfl Gen.slices_S8x8x128_o0_2_0_S8x1x128 i l
  have n3 := nibble_apply x 3 ![0, 3, 0] rfl Gen.slices_S8x8x128_o0_3_0_S8x1x128 i l
  have n4 := nibble_apply x 4 ![0, 4, 0] rfl Gen.slices_S8x8x128_o0_4_0_S8x1x128 i l
  have n5 := nibble_apply x 5 ![0, 5, 0] rfl Gen.slices_S8x8x128_o0_5_0_S8x1x128 i l
  have n6 := nibble_apply x 6 ![0, 6, 0] rfl Gen.slices_S8x8x128_o0_6_0_S8x1x128 i l
  have n7 := nibble_apply x 7 ![0, 7, 0] rfl Gen.slices_S8x8x128_o0_7_0_S8x1x128 i l
  unfold pack
  beta_reduce
  rw [← n0, ← n1, ← n2, ← n3, ← n4, ← n5, ← n6, ← n7]
  rfl

/-- The stored bytes: row `R` of the group's 32 is byte `R % 4` of word row `R / 4`, cleaned. -/
theorem pay57_apply (w : IVec S8x128 32) (R : Fin 32) (l : Fin 128) :
    Gen.k0_pay57 w 2004318071#32 (ix3 0 R l)
      = (cleanWord (w (ix2 ⟨R.val / 4, by omega⟩ l))).extractLsb' (8 * (R.val % 4)) 8 := by
  have e : ∀ x : IVec S32x128 8, shapeCast S1x32x128 x Gen.shapeCasts_S32x128_S1x32x128 (ix3 0 R l) = x (ix2 R l) := by
    intro x; pointwise
  refine (e _).trans ((bitcast_32_8_ix2 _ _ R l (⟨R.val / 4, by omega⟩ : Fin 8) (⟨R.val % 4, by omega⟩ : Fin 4) ?_).trans rfl)
  show R.val = 4 * (R.val / 4) + R.val % 4
  omega

/-- The bytes that a group of four blocks stores, from the loaded rows of the transposed tile and of the reciprocals. -/
theorem group_apply (v : Fin 4 → Vec Ideal S16x128 .bf16) (w : Fin 4 → Vec Ideal S1x128 .f32) (x : Fin 128 → Row) (g : Fin 86)
    (hv : ∀ (q : Fin 4) (e : Fin 16) (l : Fin 128), (v q (ix2 e l) : EReal) = x l (pos ⟨4 * g.val + q.val, by omega⟩ e))
    (hw : ∀ (q : Fin 4) (l : Fin 128), (w q (ix2 0 l) : EReal) = Ideal.div 1 (divisor (x l) ⟨4 * g.val + q.val, by omega⟩))
    (R : Fin 32) (l : Fin 128) (b : IVec S1x32x128 8)
    (hb : b = Gen.k0_pay57 (Gen.k0_pay24
      (Gen.k0_pay16 (Gen.k0_pay10 (v 0) (w 0)) (Gen.k0_pay11 (v 1) (w 1)) (Gen.k0_pay12 (v 2)) (Gen.k0_pay13 (w 2)) (v 3) (w 3))
      (Gen.k0_pay17 (Gen.k0_pay10 (v 0) (w 0)) (Gen.k0_pay11 (v 1) (w 1)) (Gen.k0_pay12 (v 2)) (Gen.k0_pay13 (w 2)) (v 3) (w 3))
      (Gen.k0_pay18 (Gen.k0_pay10 (v 0) (w 0)) (Gen.k0_pay11 (v 1) (w 1)) (Gen.k0_pay12 (v 2)) (Gen.k0_pay13 (w 2)) (v 3) (w 3))
      (Gen.k0_pay19 (Gen.k0_pay10 (v 0) (w 0)) (Gen.k0_pay11 (v 1) (w 1)) (Gen.k0_pay12 (v 2)) (Gen.k0_pay13 (w 2)) (v 3) (w 3))
      (Gen.k0_pay20 (Gen.k0_pay10 (v 0) (w 0)) (Gen.k0_pay11 (v 1) (w 1)) (Gen.k0_pay12 (v 2)) (Gen.k0_pay13 (w 2)) (v 3) (w 3))
      (Gen.k0_pay21 (Gen.k0_pay10 (v 0) (w 0)) (Gen.k0_pay11 (v 1) (w 1)) (Gen.k0_pay12 (v 2)) (Gen.k0_pay13 (w 2)) (v 3) (w 3))
      (Gen.k0_pay22 (Gen.k0_pay10 (v 0) (w 0)) (Gen.k0_pay11 (v 1) (w 1)) (Gen.k0_pay12 (v 2)) (Gen.k0_pay13 (w 2)) (v 3) (w 3))
      (Gen.k0_pay23 (Gen.k0_pay10 (v 0) (w 0)) (Gen.k0_pay11 (v 1) (w 1)) (Gen.k0_pay12 (v 2)) (Gen.k0_pay13 (w 2)) (v 3) (w 3)))
      2004318071#32) :
    b (ix3 0 R l) = byte (x l) ⟨32 * g.val + R.val, by omega⟩ := by
  subst hb
  rw [pay57_apply, pay24_apply]
  simp only [codes_eq]
  -- every value packed is a scaled value of the row
  have hs : ∀ (d : Fin 64), (Gen.k0_pay14 (Gen.k0_pay10 (v 0) (w 0)) (Gen.k0_pay11 (v 1) (w 1)) (Gen.k0_pay12 (v 2))
      (Gen.k0_pay13 (w 2)) (v 3) (w 3) (ix2 d l) : EReal) = scaled (x l) ⟨64 * g.val + d.val, by omega⟩ := by
    intro d
    rw [pay14_apply, hv, hw, mul_recip _ _ (divisor_ne_zero _ _)]
    have e1 : (pos ⟨4 * g.val + d.val / 16, by omega⟩ ⟨d.val % 16, by omega⟩ : Fin 5504) = ⟨64 * g.val + d.val, by omega⟩ :=
      Fin.ext (by show 16 * (4 * g.val + d.val / 16) + d.val % 16 = 64 * g.val + d.val; omega)
    have e2 : (⟨4 * g.val + d.val / 16, by omega⟩ : Fin 344) = blockOf ⟨64 * g.val + d.val, by omega⟩ :=
      Fin.ext (by show 4 * g.val + d.val / 16 = (64 * g.val + d.val) / 16; omega)
    exact congrArg clip (congrArg₂ Ideal.div (congrArg (x l) e1) (congrArg (divisor (x l)) e2))
  choose r hr hr6 using fun d : Fin 5504 => clip_real (Ideal.div (x l d) (divisor (x l) (blockOf d)))
  have hr' : ∀ d, scaled (x l) d = (r d : EReal) := hr
  simp only [hs, hr']
  refine (byte_clean_pack (fun q => r ⟨64 * g.val + (8 * (R.val / 4) + q.val), by omega⟩) ⟨R.val % 4, by omega⟩).trans ?_
  unfold byte
  simp only [hr']
  congr 4
  · exact Fin.ext (by show 64 * g.val + (8 * (R.val / 4) + (2 * (R.val % 4) + 1)) = 2 * (32 * g.val + R.val) + 1; omega)
  · exact Fin.ext (by show 64 * g.val + (8 * (R.val / 4) + (2 * (R.val % 4))) = 2 * (32 * g.val + R.val); omega)

end Cert.Proof.Value
-- ==== Proof.GroupValue.lean ====
module

public import proofs.«01_k».proof.Proof.ChunkValue
public import proofs.«01_k».proof.Proof.PackValue

@[expose] public section

set_option maxRecDepth 16384

noncomputable section

namespace Cert.Proof.Value

open Cert.KernelIdeal
open Idealize.ShloMosaic Cert.Proof.Token

/-- What holds of the packed block `p` before group `k` of column `c`: the earlier columns are done, and so are the first
    `32 k` byte rows of this one. -/
def Packed (y : S1x256x5504.Idx → EReal) (c : Nat) (k : Nat) (p : S1x2752x256.Idx → BitVec 8) : Prop :=
  ∀ (R : Fin 2752) (t : Fin 256), t.val < 128 * c ∨ (t.val < 128 * (c + 1) ∧ R.val < 32 * k) →
    p (ix3 0 R t) = byte (row y t) R

/-- The transposed tile of column `c` is complete. -/
def Tile (y : S1x256x5504.Idx → EReal) (c : Fin 2) (t7 : S5504x128.Idx → EReal) : Prop :=
  ∀ (d : Fin 5504) (l : Fin 128), t7 (ix2 d l) = row y (lane c l) d

/-- The reciprocals of column `c` are complete. -/
def Recips (y : S1x256x5504.Idx → EReal) (c : Fin 2) (t9 : S344x128.Idx → EReal) : Prop :=
  ∀ (b : Fin 344) (l : Fin 128), t9 (ix2 b l) = Ideal.div 1 (divisor (row y (lane c l)) b)

/-- One group: four blocks of the tile scaled, rounded, packed and stored. -/
theorem group_step (y : S1x256x5504.Idx → EReal) (c : Fin 2) (g : Nat) (hg : g < 86)
    (m4 : Memref sig .tc .vmem S1x2752x256 .i8) (m7 : Memref sig .tc .vmem S5504x128 .bf16)
    (m9 : Memref sig .tc .vmem S344x128 .f32)
    (f4 : BufTy.Contents (Elt Ideal) m4.view.ty) (f7 : BufTy.Contents (Elt Ideal) m7.view.ty)
    (f9 : BufTy.Contents (Elt Ideal) m9.view.ty)
    (o5 : Fin 4 → Fin 2 → Nat) (b5 : ∀ q a, o5 q a + S16x128.size a ≤ S5504x128.size a) (e5 : ∀ q : Fin 4, o5 q = ![16 * (4 * g + q.val), 0])
    (o6 : Fin 4 → Fin 2 → Nat) (b6 : ∀ q a, o6 q a + S1x128.size a ≤ S344x128.size a) (e6 : ∀ q : Fin 4, o6 q = ![4 * g + q.val, 0])
    (o7 : Fin 3 → Nat) (b7) (e7 : o7 = ![0, 32 * g, 128 * c.val])
    (h7 : Tile y c (m7.view.read (Elt Ideal) f7)) (h9 : Recips y c (m9.view.read (Elt Ideal) f9))
    (h : Packed y c.val g (m4.view.read (Elt Ideal) f4))
    (v : Fin 4 → Vec Ideal S16x128 .bf16)
    (hv : ∀ q, v q = View.readAt (Elt Ideal) m7.view (Rect.unit (s := S5504x128) (o5 q) S16x128.size (b5 q)).toLoadRect f7)
    (w : Fin 4 → Vec Ideal S1x128 .f32)
    (hw : ∀ q, w q = View.readAt (Elt Ideal) m9.view (Rect.unit (s := S344x128) (o6 q) S1x128.size (b6 q)).toLoadRect f9)
    (b : IVec S1x32x128 8)
    (hb : b = Gen.k0_pay57 (Gen.k0_pay24
      (Gen.k0_pay16 (Gen.k0_pay10 (v 0) (w 0)) (Gen.k0_pay11 (v 1) (w 1)) (Gen.k0_pay12 (v 2)) (Gen.k0_pay13 (w 2)) (v 3) (w 3))
      (Gen.k0_pay17 (Gen.k0_pay10 (v 0) (w 0)) (Gen.k0_pay11 (v 1) (w 1)) (Gen.k0_pay12 (v 2)) (Gen.k0_pay13 (w 2)) (v 3) (w 3))
      (Gen.k0_pay18 (Gen.k0_pay10 (v 0) (w 0)) (Gen.k0_pay11 (v 1) (w 1)) (Gen.k0_pay12 (v 2)) (Gen.k0_pay13 (w 2)) (v 3) (w 3))
      (Gen.k0_pay19 (Gen.k0_pay10 (v 0) (w 0)) (Gen.k0_pay11 (v 1) (w 1)) (Gen.k0_pay12 (v 2)) (Gen.k0_pay13 (w 2)) (v 3) (w 3))
      (Gen.k0_pay20 (Gen.k0_pay10 (v 0) (w 0)) (Gen.k0_pay11 (v 1) (w 1)) (Gen.k0_pay12 (v 2)) (Gen.k0_pay13 (w 2)) (v 3) (w 3))
      (Gen.k0_pay21 (Gen.k0_pay10 (v 0) (w 0)) (Gen.k0_pay11 (v 1) (w 1)) (Gen.k0_pay12 (v 2)) (Gen.k0_pay13 (w 2)) (v 3) (w 3))
      (Gen.k0_pay22 (Gen.k0_pay10 (v 0) (w 0)) (Gen.k0_pay11 (v 1) (w 1)) (Gen.k0_pay12 (v 2)) (Gen.k0_pay13 (w 2)) (v 3) (w 3))
      (Gen.k0_pay23 (Gen.k0_pay10 (v 0) (w 0)) (Gen.k0_pay11 (v 1) (w 1)) (Gen.k0_pay12 (v 2)) (Gen.k0_pay13 (w 2)) (v 3) (w 3)))
      2004318071#32) :
    Packed y c.val (g + 1) (m4.view.read (Elt Ideal) (m4.view.writes (Elt Ideal) f4
      [⟨Rect.unit (s := S1x2752x256) o7 S1x32x128.size b7, b⟩])) := by
  have hval := group_apply v w (fun l => row y (lane c l)) ⟨g, hg⟩
    (fun q e l => by
      rw [hv q]
      refine (unit_read m7.view f7 (b5 q) (ix2 (pos ⟨4 * g + q.val, by omega⟩ e) l) _ (e5 q) ?_).trans (h7 _ _)
      exact Fin.forall_fin_two.mpr ⟨by show 16 * (4 * g + q.val) + e.val = _; rfl, by show l.val = 0 + l.val; omega⟩)
    (fun q l => by
      rw [hw q]
      refine (unit_read m9.view f9 (b6 q) (ix2 (⟨4 * g + q.val, by omega⟩ : Fin 344) l) _ (e6 q) ?_).trans (h9 _ _)
      exact Fin.forall_fin_two.mpr ⟨by show 4 * g + q.val = 4 * g + q.val + 0; rfl, by show l.val = 0 + l.val; omega⟩)
  intro R t ht
  by_cases hc : t.val < 128 * c.val
  · rw [View.read_writes_cons_unit_of_not_mem m4.view f4 b7 _ [] (ix3 0 R t) e7 (2 : Fin 3) (Or.inl hc)]
    exact h R t (Or.inl hc)
  · have ht' : t.val < 128 * (c.val + 1) ∧ R.val < 32 * (g + 1) := by omega
    by_cases hR : R.val < 32 * g
    · rw [View.read_writes_cons_unit_of_not_mem m4.view f4 b7 _ [] (ix3 0 R t) e7 (1 : Fin 3) (Or.inl hR)]
      exact h R t (Or.inr ⟨ht'.1, hR⟩)
    · have hR' : R.val - 32 * g < 32 := by omega
      have hl : t.val - 128 * c.val < 128 := by omega
      rw [View.read_writes_cons_unit_of_mem m4.view f4 b7 _ [] (ix3 0 R t)
        (ix3 (0 : Fin 1) (⟨R.val - 32 * g, hR'⟩ : Fin 32) (⟨t.val - 128 * c.val, hl⟩ : Fin 128)) e7 (by
          intro a
          fin_cases a
          · rfl
          · show R.val = 32 * g + (R.val - 32 * g); omega
          · show t.val = 128 * c.val + (t.val - 128 * c.val); omega)]
      refine (hval _ _ b hb).trans ?_
      have et : lane c ⟨t.val - 128 * c.val, hl⟩ = t := Fin.ext (by show 128 * c.val + (t.val - 128 * c.val) = t.val; omega)
      have eR : (⟨32 * g + (R.val - 32 * g), by omega⟩ : Fin 2752) = R := Fin.ext (by show 32 * g + (R.val - 32 * g) = R.val; omega)
      show byte (row y (lane c ⟨t.val - 128 * c.val, hl⟩)) ⟨32 * g + (R.val - 32 * g), by omega⟩ = _
      rw [et, eR]

end Cert.Proof.Value
-- ==== Proof.GroupLoops.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic
public import proofs.«01_k».proof.Proof.GroupValue

/-! # The two packing loops

Each column's packing loop runs over 86 groups of four blocks. Its generated invariant names the bytes it has stored as
a list of pieces; here the pieces are shown to leave the packed block as `Packed` says. -/

@[expose] public section

set_option maxRecDepth 8192

noncomputable section

namespace Cert.Proof.Value

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.Token

theorem off5_eq : ∀ (k : Fin k0_t2_loop.trips) (q : Fin 4), k0_off5 k (BitVec.ofNat 32 q.val) = ![16 * (4 * k.val + q.val), 0] := by decide +kernel
theorem off6_eq : ∀ (k : Fin k0_t2_loop.trips) (q : Fin 4), k0_off6 k (BitVec.ofNat 32 q.val) = ![4 * k.val + q.val, 0] := by decide +kernel
theorem off7_eq : ∀ k : Fin k0_t2_loop.trips, k0_off7 k = ![0, 32 * k.val, 128 * ((0 : Fin 2) : Fin 2).val] := by decide +kernel

/-- A trip of column 0's packing loop does one group. -/
theorem packed_trip_t2 (𝒱 : Variants) (c : Dev nD) (bd : Option 𝒱.V) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (arg2 : BitVec 32) (v32 : FVec Ideal S344x128 .f32) (cst_15 : Ideal .f32)
    (X7 : BufTy.Contents (Elt Ideal) arg7.view.ty) (X9 : BufTy.Contents (Elt Ideal) arg9.view.ty) (y : S1x256x5504.Idx → EReal)
    (h7 : Tile y 0 (arg7.view.read (Elt Ideal) X7)) (h9 : Recips y 0 (arg9.view.read (Elt Ideal) X9))
    (k : Fin k0_t2_loop.trips) (f4 : BufTy.Contents (Elt Ideal) arg4.view.ty) (h : Packed y 0 k.val (arg4.view.read (Elt Ideal) f4)) :
    Packed y 0 (k.val + 1) (arg4.view.read (Elt Ideal) (arg4.view.writes (Elt Ideal) f4
      (Gen.tripL_k0_t2 (F := Ideal) 𝒱 c bd i arg3 harg3 arg4 harg4 arg5 harg5 arg6 harg6 arg7 harg7 arg8 harg8 arg9 harg9 arg2 v32 cst_15 X7 X9 k))) := by
  have hk : k.val < 86 := Nat.lt_of_lt_of_le k.isLt Cert.KernelIdeal.Gen.k0_t2_abs.2.1
  unfold Gen.tripL_k0_t2 Gen.trip_k0_t2
  exact group_step y 0 k.val hk arg4 arg7 arg9 f4 X7 X9
    (fun q => k0_off5 k (BitVec.ofNat 32 q.val)) (Gen.k0_off5_inb k) (off5_eq k)
    (fun q => k0_off6 k (BitVec.ofNat 32 q.val)) (Gen.k0_off6_inb k) (off6_eq k)
    (k0_off7 k) (Gen.k0_off7_inb k) (off7_eq k) h7 h9 h _ (fun q => rfl) _ (fun q => rfl) _ rfl

/-- Column 0's packing loop, after `n` groups. -/
theorem packed_t2 (𝒱 : Variants) (c : Dev nD) (bd : Option 𝒱.V) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (arg2 : BitVec 32) (v32 : FVec Ideal S344x128 .f32) (cst_15 : Ideal .f32)
    (X7 : BufTy.Contents (Elt Ideal) arg7.view.ty) (X9 : BufTy.Contents (Elt Ideal) arg9.view.ty) (y : S1x256x5504.Idx → EReal)
    (h7 : Tile y 0 (arg7.view.read (Elt Ideal) X7)) (h9 : Recips y 0 (arg9.view.read (Elt Ideal) X9))
    (G : BufTy.Contents (Elt Ideal) arg4.view.ty) (h : Packed y 0 0 (arg4.view.read (Elt Ideal) G)) (n : Nat) (hn : n ≤ k0_t2_loop.trips) :
    Packed y 0 n (arg4.view.read (Elt Ideal) (arg4.view.writes (Elt Ideal) G
      (Gen.pb_k0_t2 (F := Ideal) 𝒱 c bd i arg3 harg3 arg4 harg4 arg5 harg5 arg6 harg6 arg7 harg7 arg8 harg8 arg9 harg9 arg2 v32 cst_15 X7 X9 n))) := by
  induction n with
  | zero => exact h
  | succ n ih =>
    have e := Gen.pb_k0_t2_succ (F := Ideal) 𝒱 c bd i arg3 harg3 arg4 harg4 arg5 harg5 arg6 harg6 arg7 harg7 arg8 harg8 arg9 harg9 arg2 v32 cst_15 X7 X9 ⟨n, hn⟩
    rw [show n + 1 = (⟨n, hn⟩ : Fin k0_t2_loop.trips).val + 1 from rfl, e, View.writes_append]
    exact packed_trip_t2 𝒱 c bd i arg3 harg3 arg4 harg4 arg5 harg5 arg6 harg6 arg7 harg7 arg8 harg8 arg9 harg9 arg2 v32 cst_15 X7 X9 y h7 h9 ⟨n, hn⟩ _ (ih (Nat.le_of_succ_le hn))

theorem off12_eq : ∀ (k : Fin k0_t4_loop.trips) (q : Fin 4), k0_off12 k (BitVec.ofNat 32 q.val) = ![16 * (4 * k.val + q.val), 0] := by decide +kernel
theorem off13_eq : ∀ (k : Fin k0_t4_loop.trips) (q : Fin 4), k0_off13 k (BitVec.ofNat 32 q.val) = ![4 * k.val + q.val, 0] := by decide +kernel
theorem off14_eq : ∀ k : Fin k0_t4_loop.trips, k0_off14 k = ![0, 32 * k.val, 128 * ((1 : Fin 2) : Fin 2).val] := by decide +kernel

/-- A trip of column 1's packing loop does one group. -/
theorem packed_trip_t4 (𝒱 : Variants) (c : Dev nD) (bd : Option 𝒱.V) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole)
    (X7 : BufTy.Contents (Elt Ideal) arg7.view.ty) (X9 : BufTy.Contents (Elt Ideal) arg9.view.ty) (y : S1x256x5504.Idx → EReal)
    (h7 : Tile y 1 (arg7.view.read (Elt Ideal) X7)) (h9 : Recips y 1 (arg9.view.read (Elt Ideal) X9))
    (k : Fin k0_t4_loop.trips) (f4 : BufTy.Contents (Elt Ideal) arg4.view.ty) (h : Packed y 1 k.val (arg4.view.read (Elt Ideal) f4)) :
    Packed y 1 (k.val + 1) (arg4.view.read (Elt Ideal) (arg4.view.writes (Elt Ideal) f4
      (Gen.tripL_k0_t4 (F := Ideal) 𝒱 c bd i arg3 harg3 arg4 harg4 arg5 harg5 arg6 harg6 arg7 harg7 arg8 harg8 arg9 harg9 X7 X9 k))) := by
  have hk : k.val < 86 := Nat.lt_of_lt_of_le k.isLt Cert.KernelIdeal.Gen.k0_t4_abs.2.1
  unfold Gen.tripL_k0_t4 Gen.trip_k0_t4
  exact group_step y 1 k.val hk arg4 arg7 arg9 f4 X7 X9
    (fun q => k0_off12 k (BitVec.ofNat 32 q.val)) (Gen.k0_off12_inb k) (off12_eq k)
    (fun q => k0_off13 k (BitVec.ofNat 32 q.val)) (Gen.k0_off13_inb k) (off13_eq k)
    (k0_off14 k) (Gen.k0_off14_inb k) (off14_eq k) h7 h9 h _ (fun q => rfl) _ (fun q => rfl) _ rfl

/-- Column 1's packing loop, after `n` groups. -/
theorem packed_t4 (𝒱 : Variants) (c : Dev nD) (bd : Option 𝒱.V) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole)
    (X7 : BufTy.Contents (Elt Ideal) arg7.view.ty) (X9 : BufTy.Contents (Elt Ideal) arg9.view.ty) (y : S1x256x5504.Idx → EReal)
    (h7 : Tile y 1 (arg7.view.read (Elt Ideal) X7)) (h9 : Recips y 1 (arg9.view.read (Elt Ideal) X9))
    (G : BufTy.Contents (Elt Ideal) arg4.view.ty) (h : Packed y 1 0 (arg4.view.read (Elt Ideal) G)) (n : Nat) (hn : n ≤ k0_t4_loop.trips) :
    Packed y 1 n (arg4.view.read (Elt Ideal) (arg4.view.writes (Elt Ideal) G
      (Gen.pb_k0_t4 (F := Ideal) 𝒱 c bd i arg3 harg3 arg4 harg4 arg5 harg5 arg6 harg6 arg7 harg7 arg8 harg8 arg9 harg9 X7 X9 n))) := by
  induction n with
  | zero => exact h
  | succ n ih =>
    have e := Gen.pb_k0_t4_succ (F := Ideal) 𝒱 c bd i arg3 harg3 arg4 harg4 arg5 harg5 arg6 harg6 arg7 harg7 arg8 harg8 arg9 harg9 X7 X9 ⟨n, hn⟩
    rw [show n + 1 = (⟨n, hn⟩ : Fin k0_t4_loop.trips).val + 1 from rfl, e, View.writes_append]
    exact packed_trip_t4 𝒱 c bd i arg3 harg3 arg4 harg4 arg5 harg5 arg6 harg6 arg7 harg7 arg8 harg8 arg9 harg9 X7 X9 y h7 h9 ⟨n, hn⟩ _ (ih (Nat.le_of_succ_le hn))

end Cert.Proof.Value
-- ==== Proof.ScaleValue.lean ====
/-
  The scales of one column of 128 tokens, as functions of the rows: what the kernel computes between its chunk loop and
  its packing loop is `tokenScale`, `blockScale` and the reciprocals of `divisor`.
-/
module

public import proofs.«01_k».proof.Proof.GroupValue
public import proofs.«01_k».proof.Proof.ChunkValue
public import proofs.«01_k».proof.Proof.PackValue

@[expose] public section

set_option maxRecDepth 16384

noncomputable section

namespace Cert.Proof.Value

open Cert.KernelIdeal
open Idealize.ShloMosaic Cert.Proof.Token

/-- The word that starts a maximum reduction is minus infinity. -/
theorem c_negInf : Ideal.ofBits .f32 0xFF800000#32 = ⊥ := by
  simp [Ideal.ofBits, Ideal.ieee, -EReal.coe_mul]

/-- The named constant is the reciprocal of 2688. -/
theorem c_named : Named.named (F := Ideal) κ "inv_div" (φ := .f32) 0x39C30C31#32 = ((1 / 2688 : ℝ) : EReal) := by
  simp [Named.named, κ]

variable {y : S1x256x5504.Idx → EReal} {c : Fin 2} {t7 : FVec Ideal S5504x128 .f32}
  {t8 : FVec Ideal S344x128 .f32} {acc : FVec Ideal S8x128 .f32}

/-- After the last chunk the tile is complete. -/
theorem tile_of (h : Chunks y c 43 t7 t8 acc) : Tile y c t7 := fun d l => h.1 d l (by omega)

/-- After the last chunk every block maximum is. -/
theorem maxima_of (h : Chunks y c 43 t7 t8 acc) (b : Fin 344) (l : Fin 128) :
    t8 (ix2 b l) = amax (row y (lane c l)) b := h.2.1 b l (by omega)

/-- The maximum over the eight sublanes of the running maximum is the row's. -/
theorem fold_eq (h : Chunks y c 43 t7 t8 acc) (l : Fin 128) :
    (Finset.univ.fold max (Ideal.ofBits FTy.f32 0xFF800000#32) fun s : Fin 8 => acc (ix2 s l)) =
      rowMax (row y (lane c l)) := by
  refine eq_of_forall_ge_iff fun u => ?_
  rw [Finset.fold_max_le, c_negInf, rowMax_le_iff]
  constructor
  · rintro ⟨-, hs⟩
    intro b
    exact ((h.2.2 ⟨b.val % 8, by omega⟩ l u).1 (hs _ (Finset.mem_univ _))).2 b rfl (by omega)
  · intro hb
    refine ⟨bot_le, fun s _ => (h.2.2 s l u).2 ⟨(amax_nonneg _ 0).trans (hb 0), fun b _ _ => hb b⟩⟩

/-- The per-token scale. -/
theorem pay49_apply (h : Chunks y c 43 t7 t8 acc) (l : Fin 128) :
    Gen.k0_pay49 acc (ix2 0 l) = tokenScale (row y (lane c l)) := by
  pointwise [Gen.k0_pay49]
  rw [c_named]
  erw [fold_eq h l]
  rfl

/-- The per-token scale over the eight rows of the batch group. -/
theorem pay51_apply (h : Chunks y c 43 t7 t8 acc) (s : Fin 8) (l : Fin 128) :
    Gen.k0_pay51 acc (ix3 0 s l) = tokenScale (row y (lane c l)) := by
  rw [← pay49_apply h l]
  pointwise [Gen.k0_pay51, Gen.k0_pay50]

/-- The batch group's scales with this point's row replaced. -/
theorem pay52_apply (h : Chunks y c 43 t7 t8 acc) (i : grid0.Coords) (old : Vec Ideal S1x8x128 .f32) (s : Fin 8)
    (l : Fin 128) :
    Gen.k0_pay52 i acc old (ix3 0 s l) =
      if s.val = (i 2).val then tokenScale (row y (lane c l)) else old (ix3 0 s l) := by
  rw [← pay51_apply h s l]
  have h2 : (i 2).val < 8 := (i 2).isLt
  pointwise [Gen.k0_pay52, Gen.k0_pay51]
  have e : IntOp.cmpi CmpIPredicate.eq (BitVec.ofNat 32 s.val) (BitVec.ofNat 32 (i 2).val) =
      BitVec.ofBool (decide (s.val = (i 2).val)) := by
    have : (BitVec.ofNat 32 s.val = BitVec.ofNat 32 (i 2).val) ↔ s.val = (i 2).val := by
      rw [← BitVec.toNat_inj]; simp; omega
    simp only [IntOp.cmpi]
    congr 1
    rw [Bool.eq_iff_iff]
    simp [this]
  rw [e]
  by_cases hs : s.val = (i 2).val <;> simp [Scalar.select, hs]

/-- The block scales. -/
theorem pay53_apply (h : Chunks y c 43 t7 t8 acc) (b : Fin 344) (l : Fin 128) :
    Gen.k0_pay53 acc t8 (ix2 b l) = blockScale (row y (lane c l)) b := by
  pointwise [Gen.k0_pay53]
  rw [pay49_apply h l, c_6, c_448, maxima_of h]
  rfl

/-- The block scales as stored. -/
theorem pay54_apply (h : Chunks y c 43 t7 t8 acc) (b : Fin 344) (l : Fin 128) :
    Gen.k0_pay54 acc t8 (ix3 0 b l) = blockScale (row y (lane c l)) b := by
  rw [← pay53_apply h b l]
  pointwise [Gen.k0_pay54]

/-- The reciprocals of the divisors. -/
theorem recips_of (h : Chunks y c 43 t7 t8 acc) :
    Recips y c (Gen.k0_pay56 (Gen.k0_pay55 acc t8) (Scalar.ofBits .f32 0x00000000#32)) := by
  intro b l
  pointwise [Gen.k0_pay56, Gen.k0_pay55]
  rw [pay53_apply h b l, pay49_apply h l]
  rfl

/-! The second column's scale arithmetic is the first's. -/

theorem pay62_eq (v : FVec Ideal S8x128 .f32) : Gen.k0_pay62 v = Gen.k0_pay49 v := rfl
theorem pay64_eq (v : FVec Ideal S8x128 .f32) : Gen.k0_pay64 v = Gen.k0_pay51 v := rfl
theorem pay65_eq (i : grid0.Coords) (v : FVec Ideal S8x128 .f32) (old : Vec Ideal S1x8x128 .f32) :
    Gen.k0_pay65 (BitVec.ofNat 32 (i 2).val) v old = Gen.k0_pay52 i v old := rfl
theorem pay2_eq (v : FVec Ideal S8x128 .f32) (w : Vec Ideal S344x128 .f32) :
    Gen.k0_pay2 w (Gen.k0_pay66 v) = Gen.k0_pay54 v w := rfl
theorem pay3_eq (v : FVec Ideal S8x128 .f32) (w : Vec Ideal S344x128 .f32) :
    Gen.k0_pay3 (Gen.k0_pay62 v) w (Gen.k0_pay66 v) = Gen.k0_pay56 (Gen.k0_pay55 v w) (Scalar.ofBits .f32 0x00000000#32) := rfl
end Cert.Proof.Value

end
-- ==== Proof.ValueBody.lean ====
/-
  The body at a grid point, with values: from the input block, anything in the packed and the scale blocks and the batch
  group's scales as they are, the body leaves the packed bytes, the block scales and the group's scales of the input
  block's rows.
-/
module

public import proofs.«01_k».proof.Proof.ChunkLoops
public import proofs.«01_k».proof.Proof.GroupLoops
public import proofs.«01_k».proof.Proof.ScaleValue
public import proofs.«01_k».proof.Proof.Gen.KernelIdeal.Points

@[expose] public section

set_option maxRecDepth 16384

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Token

local notation "𝕄G" => MT nD τ sig Unit (Elt Ideal) ℕ (UR sig nD τ) ℕ

/-- The packed block of an input block. -/
def packedBlk (y : S1x256x5504.Idx → EReal) : S1x2752x256.Idx → BitVec 8 := fun ix => byte (row y (ix 2)) (ix 1)

/-- The block scales of an input block. -/
def scaleBlk (y : S1x256x5504.Idx → EReal) : S1x344x256.Idx → EReal := fun ix => blockScale (row y (ix 2)) (ix 1)

/-- The batch group's per-token scales after the point of row `r`: the first point of the group writes every row, a later
    one its own. -/
def tokenBlk (r : Nat) (y : S1x256x5504.Idx → EReal) (old : S1x8x256.Idx → EReal) : S1x8x256.Idx → EReal := fun ix =>
  if r = 0 ∨ (ix 1).val = r then tokenScale (row y (ix 2)) else old ix

/-- Two stores of 128 columns each fill a block of 256 columns. -/
theorem halves {κ : Kind} {sp : Space} {B : Nat} {e : EltTy} (v : View sig κ sp (⟨3, ![1, B, 256]⟩ : Shape) e) (f : v.ty.Contents (Elt Ideal))
    (P1 P0 : (⟨3, ![1, B, 128]⟩ : Shape).Idx → Elt Ideal e) (inb1 inb0) (g : (⟨3, ![1, B, 256]⟩ : Shape).Idx → Elt Ideal e)
    (h0 : ∀ (b : Fin B) (l : Fin 128), P0 (ix3 0 b l) = g (ix3 0 b (lane 0 l)))
    (h1 : ∀ (b : Fin B) (l : Fin 128), P1 (ix3 0 b l) = g (ix3 0 b (lane 1 l))) :
    v.read (Elt Ideal) (v.writes (Elt Ideal) f
      [⟨Rect.unit (s := ⟨3, ![1, B, 256]⟩) ![0, 0, 128] (⟨3, ![1, B, 128]⟩ : Shape).size inb1, P1⟩,
        ⟨Rect.unit (s := ⟨3, ![1, B, 256]⟩) ![0, 0, 0] (⟨3, ![1, B, 128]⟩ : Shape).size inb0, P0⟩]) = g := by
  funext ix
  obtain ⟨z, b, t, rfl⟩ : ∃ (z : Fin 1) (b : Fin B) (t : Fin 256), ix = ix3 z b t := ⟨ix 0, ix 1, ix 2, by
    funext a; fin_cases a <;> rfl⟩
  obtain rfl : z = 0 := Subsingleton.elim _ _
  by_cases ht : t.val < 128
  · rw [View.read_writes_cons_unit_of_not_mem v f inb1 _ _ (ix3 0 b t) rfl (2 : Fin 3) (Or.inl ht),
      View.read_writes_cons_unit_of_mem v f inb0 _ [] (ix3 0 b t) (ix3 0 b (⟨t.val, ht⟩ : Fin 128)) rfl (by
        intro a; fin_cases a
        · rfl
        · exact (Nat.zero_add _).symm
        · exact (Nat.zero_add _).symm)]
    refine (h0 b ⟨t.val, ht⟩).trans (congrArg g (congrArg (ix3 0 b) (Fin.ext ?_)))
    simp [lane]
  · have h2 : t.val - 128 < 128 := by omega
    rw [View.read_writes_cons_unit_of_mem v f inb1 _ _ (ix3 0 b t) (ix3 0 b (⟨t.val - 128, h2⟩ : Fin 128)) rfl (by
        intro a; fin_cases a
        · rfl
        · exact (Nat.zero_add _).symm
        · show t.val = 128 + (t.val - 128); omega)]
    refine (h1 b ⟨t.val - 128, h2⟩).trans (congrArg g (congrArg (ix3 0 b) (Fin.ext ?_)))
    simp [lane]; omega

/-- A load of 128 columns of a block of 256. -/
theorem half_read {κ : Kind} {sp : Space} {B : Nat} {e : EltTy} (v : View sig κ sp (⟨3, ![1, B, 256]⟩ : Shape) e) (f : v.ty.Contents (Elt Ideal))
    (c : Fin 2) (off : Fin 3 → Nat) (inb) (ho : off = ![0, 0, 128 * c.val]) (b : Fin B) (l : Fin 128) :
    View.readAt (Elt Ideal) v (Rect.unit (s := ⟨3, ![1, B, 256]⟩) off (⟨3, ![1, B, 128]⟩ : Shape).size inb).toLoadRect f (ix3 0 b l)
      = v.read (Elt Ideal) f (ix3 0 b (lane c l)) := by
  refine unit_read v f inb (ix3 0 b (lane c l)) (ix3 0 b l) ho ?_
  intro a
  fin_cases a
  · rfl
  · exact (Nat.zero_add _).symm
  · rfl

/-- The last store of a whole buffer is what it reads. -/
theorem full_read {κ : Kind} {sp : Space} {e : EltTy} (v : View sig κ sp S344x128 e) (f : v.ty.Contents (Elt Ideal)) (inb)
    (w : S344x128.Idx → Elt Ideal e) (L) :
    v.read (Elt Ideal) (v.writes (Elt Ideal) f (⟨Rect.unit (s := S344x128) ![0, 0] S344x128.size inb, w⟩ :: L)) = w := by
  funext ix
  exact View.read_writes_cons_unit_of_mem v f inb w L ix ix rfl (by
    intro a; fin_cases a
    · exact (Nat.zero_add _).symm
    · exact (Nat.zero_add _).symm)

theorem row_zero : ∀ r : Fin 8, Scalar.cmpi .ne (Scalar.extui (Scalar.cmpi .eq (BitVec.ofNat 32 r.val) 0#32)) 0#32 = 1#1 ↔ r.val = 0 := by decide +kernel

/-- The first and the third conditional run at the first row of a batch group. -/
theorem cond1_iff (i : grid0.Coords) : k0_cond1 i = 1#1 ↔ (i 2).val = 0 := row_zero (i 2)

/-- After both packing loops the packed block is complete. -/
theorem packed_final (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole) (y : S1x256x5504.Idx → EReal)
    (f4 : BufTy.Contents (Elt Ideal) arg4.view.ty) (X7 X7' : BufTy.Contents (Elt Ideal) arg7.view.ty) (X9 X9' : BufTy.Contents (Elt Ideal) arg9.view.ty)
    (arg2 : BitVec 32) (v32 : FVec Ideal S344x128 .f32) (cst_15 : Ideal .f32)
    (h7 : Tile y 0 (arg7.view.read (Elt Ideal) X7)) (h9 : Recips y 0 (arg9.view.read (Elt Ideal) X9))
    (h7' : Tile y 1 (arg7.view.read (Elt Ideal) X7')) (h9' : Recips y 1 (arg9.view.read (Elt Ideal) X9')) :
    arg4.view.read (Elt Ideal) (arg4.view.writes (Elt Ideal) f4
      (pb_k0_t4 (F := Ideal) Variants.none c none i arg3 harg3 arg4 harg4 arg5 harg5 arg6 harg6 arg7 harg7 arg8 harg8 arg9 harg9 X7' X9' (Scf.trips k0_t4_loop.lb k0_t4_loop.ub k0_t4_loop.st)
        ++ pb_k0_t2 (F := Ideal) Variants.none c none i arg3 harg3 arg4 harg4 arg5 harg5 arg6 harg6 arg7 harg7 arg8 harg8 arg9 harg9 arg2 v32 cst_15 X7 X9 (Scf.trips k0_t2_loop.lb k0_t2_loop.ub k0_t2_loop.st))) = packedBlk y := by
  have e2 : Scf.trips k0_t2_loop.lb k0_t2_loop.ub k0_t2_loop.st = 86 := by decide +kernel
  have e4 : Scf.trips k0_t4_loop.lb k0_t4_loop.ub k0_t4_loop.st = 86 := by decide +kernel
  have p2 := packed_t2 Variants.none c none i arg3 harg3 arg4 harg4 arg5 harg5 arg6 harg6 arg7 harg7 arg8 harg8 arg9 harg9 arg2 v32 cst_15 X7 X9 y h7 h9 f4 (fun R t h => absurd h (by omega)) _ (le_refl (Scf.trips k0_t2_loop.lb k0_t2_loop.ub k0_t2_loop.st))
  rw [View.writes_append]
  have p4 := packed_t4 Variants.none c none i arg3 harg3 arg4 harg4 arg5 harg5 arg6 harg6 arg7 harg7 arg8 harg8 arg9 harg9 X7' X9' y h7' h9' _ (fun R t h => p2 R t (by omega)) _ (le_refl (Scf.trips k0_t4_loop.lb k0_t4_loop.ub k0_t4_loop.st))
  funext ix
  obtain ⟨z, R, t, rfl⟩ : ∃ (z : Fin 1) (R : Fin 2752) (t : Fin 256), ix = ix3 z R t := ⟨ix 0, ix 1, ix 2, by
    funext a; fin_cases a <;> rfl⟩
  obtain rfl : z = 0 := Subsingleton.elim _ _
  exact p4 R t (by omega)

set_option maxHeartbeats 2000000 in
/-- The body at a grid point, under either outcome of its conditionals. -/
theorem body_value (c : Dev nD) (i : grid0.Coords) (arg3 : Memref sig .tc .vmem S1x256x5504 .bf16) (harg3 : arg3.IsWhole) (arg4 : Memref sig .tc .vmem S1x2752x256 .i8) (harg4 : arg4.IsWhole) (arg5 : Memref sig .tc .vmem S1x344x256 .fp8e4m3) (harg5 : arg5.IsWhole) (arg6 : Memref sig .tc .vmem S1x8x256 .f32) (harg6 : arg6.IsWhole) (arg7 : Memref sig .tc .vmem S5504x128 .bf16) (harg7 : arg7.IsWhole) (arg8 : Memref sig .tc .vmem S344x128 .f32) (harg8 : arg8.IsWhole) (arg9 : Memref sig .tc .vmem S344x128 .f32) (harg9 : arg9.IsWhole)
    (y : Vec Ideal S1x256x5504 .bf16) (old : Vec Ideal S1x8x256 .f32)
    (hc : (k0_cond1 i = 1#1 ∧ ¬ k0_cond2 i = 1#1 ∧ k0_cond3 i = 1#1 ∧ ¬ k0_cond4 i = 1#1) ∨ (¬ k0_cond1 i = 1#1 ∧ k0_cond2 i = 1#1 ∧ ¬ k0_cond3 i = 1#1 ∧ k0_cond4 i = 1#1))
    (K : PUnit → sProp 𝕄G) :
    iprop(owns (c : Thread nD τ) arg3 fullShare y ∗ (∃ d, owns (c : Thread nD τ) arg4 fullShare d) ∗ (∃ d, owns (c : Thread nD τ) arg5 fullShare d) ∗ owns (c : Thread nD τ) arg6 fullShare old
        ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))
        ∗ (iprop(owns (c : Thread nD τ) arg3 fullShare y ∗ owns (c : Thread nD τ) arg4 fullShare (packedBlk y) ∗ owns (c : Thread nD τ) arg5 fullShare (scaleBlk y) ∗ owns (c : Thread nD τ) arg6 fullShare (tokenBlk (i 2).val y old)
          ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) -∗ K ⟨⟩))
      ⊢ wp frame (wpE (defs₀ (F := Ideal)) Variants.none c none) Set.univ (cc0_nvfp4_quantise i arg3 harg3 arg4 harg4 arg5 harg5 arg6 harg6 arg7 harg7 arg8 harg8 arg9 harg9) K := by
  unfold owns
  iintro ⟨⟨%f3, %hf3, H3⟩, ⟨%d4, %f4, -, H4⟩, ⟨%d5, %f5, -, H5⟩, ⟨%f6, %hf6, H6⟩, ⟨%f7, H7⟩, ⟨%f8, H8⟩, ⟨%f9, H9⟩, Hk⟩
  sl_unfold [cc0_nvfp4_quantise]
  have hrow := cond1_iff i
  rcases hc with ⟨hc1, hc2, hc3, hc4⟩ | ⟨hc1, hc2, hc3, hc4⟩
  all_goals
    sl_exec (disch := first | sl_exact hc1 | sl_exact hc2 | sl_exact hc3 | sl_exact hc4 | omega)
    sl_unfold_words
    rw [hf3] at hL3 hL11
    rename_i a0 u0 a1 u1
    replace hL3 : Chunks y 0 43 (arg7.view.read (Elt Ideal) f7L0) (arg8.view.read (Elt Ideal) f8L1) _ := hL3
    replace hL11 : Chunks y 1 43 (arg7.view.read (Elt Ideal) f7L3) (arg8.view.read (Elt Ideal) f8L4) _ := hL11
    sl_step
    iapply Hk
    isplitl [H3]
    · iexists _; isplitr; · ipureintro; exact hf3
      iexact H3
    isplitl [H4]
    · iexists _; isplitr; swap; · iexact H4
      ipureintro
      refine packed_final c i arg3 harg3 arg4 harg4 arg5 harg5 arg6 harg6 arg7 harg7 arg8 harg8 arg9 harg9 y f4 f7L0 f7L3 _ _ _ _ _ (tile_of hL3) ?_ (tile_of hL11) ?_
      · rw [full_read, View.readAt_full]; exact recips_of hL3
      · rw [full_read, View.readAt_full, pay3_eq]; exact recips_of hL11
    isplitl [H5]
    · iexists _; isplitr; swap; · iexact H5
      ipureintro
      refine halves (B := 344) arg5.view _ _ _ _ _ (scaleBlk y) (fun b l => ?_) (fun b l => ?_)
      · rw [View.readAt_full]; exact pay54_apply hL3 b l
      · rw [View.readAt_full, pay2_eq]; exact pay54_apply hL11 b l
    isplitl [H6]
    · iexists _; isplitr; swap; · iexact H6
      ipureintro
      first
        | have h0 := hrow.1 hc1
          refine halves (B := 8) arg6.view _ _ _ _ _ (tokenBlk (i 2).val y old) (fun b l => ?_) (fun b l => ?_)
          · exact (pay51_apply hL3 b l).trans (if_pos (Or.inl h0)).symm
          · exact (pay51_apply hL11 b l).trans (if_pos (Or.inl h0)).symm
        | have h0 : ¬ (i 2).val = 0 := fun h => hc1 (hrow.2 h)
          refine halves (B := 8) arg6.view _ _ _ _ _ (tokenBlk (i 2).val y old) (fun b l => ?_) (fun b l => ?_)
          · refine (pay52_apply hL3 i _ b l).trans ?_
            by_cases hb : b.val = (i 2).val
            · exact (if_pos hb).trans (if_pos (Or.inr hb)).symm
            · exact (if_neg hb).trans (((half_read (B := 8) arg6.view f6 0 _ _ rfl b l).trans (congrFun hf6 _)).trans
                (if_neg (fun h => h.elim h0 hb)).symm)
          · rw [pay65_eq]
            refine (pay52_apply hL11 i _ b l).trans ?_
            by_cases hb : b.val = (i 2).val
            · exact (if_pos hb).trans (if_pos (Or.inr hb)).symm
            · exact (if_neg hb).trans (((half_read (B := 8) arg6.view f6 1 _ _ rfl b l).trans (congrFun hf6 _)).trans
                (if_neg (fun h => h.elim h0 hb)).symm)
    isplitl [H7]; · iexists _; iexact H7
    isplitl [H8]; · iexists _; iexact H8
    iexists _; iexact H9

end Cert.Proof.Value

end
-- ==== Proof.ValueRun.lean ====
/-
  The run of `KernelIdeal` with values: what each window's block holds after every grid point, and the run that ends with
  the arrays of these blocks and the host lines applied to them.
-/
module

public import proofs.«01_k».proof.Proof.ValueBody
public import proofs.«01_k».proof.Proof.IdealBody

@[expose] public section

set_option maxRecDepth 16384

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Token

local notation "𝕄G" => MT nD τ sig Unit (Elt Ideal) ℕ (UR sig nD τ) ℕ

variable (m : (ℓ : Loc nD τ sig) → Buf (Elt Ideal) ℓ) (ρ : Dev nD → PrngReg)

/-- The input block at point `t`. -/
abbrev inBlk (c : Dev nD) (t : Fin cfg0.N) : S1x256x5504.Idx → EReal := iblk m c 0 t

/-- The point at which row `j` of the batch group was last written, by point `t`: the row's own point if it is past,
    the group's first point otherwise. -/
def source (t : Fin cfg0.N) (j : Nat) : Fin cfg0.N :=
  ⟨t.val - t.val % 8 + (if j ≤ t.val % 8 then j else 0), by have := t.isLt; split <;> omega⟩

/-- The batch group's per-token scales after point `t`. -/
def tokenAt (c : Dev nD) (t : Fin cfg0.N) : S1x8x256.Idx → EReal := fun ix =>
  tokenScale (row (inBlk m c (source t (ix 1).val)) (ix 2))

theorem row_of_point : ∀ t : Fin cfg0.N, (cfg0.grid.coords t 2).val = t.val % 8 := by decide +kernel

/-- At a group's first point all rows are written from its block, whatever the buffer held. -/
theorem tokenAt_first (c : Dev nD) (t : Fin cfg0.N) (h : t.val % 8 = 0) (old) :
    tokenBlk (t.val % 8) (inBlk m c t) old = tokenAt m c t := by
  funext ix
  have e : source t (ix 1).val = t := Fin.ext (by simp only [source]; split <;> omega)
  simp only [tokenBlk, tokenAt, h, true_or, if_true, e]

/-- At a later point the group's scales follow from the point before. -/
theorem tokenAt_later (c : Dev nD) (t t' : Fin cfg0.N) (h : t.val % 8 ≠ 0) (ht : t'.val = t.val - 1) :
    tokenBlk (t.val % 8) (inBlk m c t) (tokenAt m c t') = tokenAt m c t := by
  funext ix
  by_cases hj : (ix 1).val = t.val % 8
  · have e : source t (ix 1).val = t := Fin.ext (by simp only [source]; split <;> omega)
    simp only [tokenBlk, tokenAt, hj, or_true, if_true]
    rw [← hj, e]
  · have e : source t' (ix 1).val = source t (ix 1).val := Fin.ext (by simp only [source]; split <;> split <;> omega)
    simp only [tokenBlk, tokenAt, h, hj, or_self, if_false, e]

/-- The proof data: the arrays as the region finds them, the input block left in place, the outputs' blocks as stated. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => packedBlk (inBlk m c t)
    | ⟨2, _⟩ => scaleBlk (inBlk m c t)
    | ⟨3, _⟩ => tokenAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = packedBlk (inBlk m c t) := by dsimp only [dats]
theorem after0_2 (c : Dev nD) (t : Fin cfg0.N) : (dats m 0 c).after 2 t = scaleBlk (inBlk m c t) := by dsimp only [dats]
theorem after0_3 (c : Dev nD) (t : Fin cfg0.N) : (dats m 0 c).after 3 t = tokenAt m c t := by dsimp only [dats]

theorem before0_0 (c : Dev nD) (t : Fin cfg0.N) (d) : (dats m 0 c).before 0 t d = iblk m c 0 t :=
  before0_0_of m (dats m 0 c) (A_eq m c 0) (after0_0 m c) t d

/-- Every point stores the per-token scales: two of the four conditionals run. -/
theorem live3 (i : grid0.Coords) : cfg0.idle 3 i = false := by
  show (!(k0_cond1 i == 1#1) && !(k0_cond2 i == 1#1) && !(k0_cond3 i == 1#1) && !(k0_cond4 i == 1#1)) = false
  rcases Cert.Proof.KernelIdeal.cond_cases i with ⟨h, -⟩ | ⟨-, h, -⟩ <;> simp [h]

/-- What the body leaves in the scales' buffer, from what it finds there. -/
theorem tokenBlk_before (c : Dev nD) (t : Fin cfg0.N) (d) :
    tokenBlk (cfg0.grid.coords t 2).val (inBlk m c t) ((dats m 0 c).before 3 t d) = tokenAt m c t := by
  rw [row_of_point]
  by_cases h : t.val % 8 = 0
  · exact tokenAt_first m c t h _
  · have ht : t.val ≠ 0 := fun h0 => h (by rw [h0])
    have hf : (cfg0.win 3).flush ⟨t.val - 1, Nat.lt_of_le_of_lt (Nat.sub_le _ _) t.isLt⟩ = false := by
      rw [Bool.eq_false_iff]
      intro hf
      have := (flush0_3 _).1 hf
      simp only at this
      omega
    rw [(dats m 0 c).before_out_kept 3 rfl t ht hf live3 (fun _ _ => rfl) d, after0_3]
    exact tokenAt_later m c t _ h rfl

/-- What the body is called with at point `t`. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0, after0_1, after0_2, after0_3,
    show (dats m 0 c).Φ t.castSucc = Pipeline.ΦA spec0 c from rfl]
  unfold Pipeline.ΦA
  rw [scopedRest0_eq]
  iintro ⟨⟨⟨⟨%g7, H7⟩, ⟨%g8, H8⟩, ⟨%g9, H9⟩⟩, Hr⟩, Ho, ⟨%d0, H0⟩, ⟨%d1, H1⟩, ⟨%d2, H2⟩, ⟨%d3, H3⟩⟩
  rw [← tokenBlk_before m c t d3]
  iapply (body_value c _ _ _ _ _ _ _ _ _ _ _ _ _ _ _ (inBlk m c t) ((dats m 0 c).before 3 t d3) (Cert.Proof.KernelIdeal.cond_cases _) _)
  isplitl [H0]; · iexact H0
  isplitl [H1]; · iexists _; iexact H1
  isplitl [H2]; · iexists _; iexact H2
  isplitl [H3]; · iexact H3
  isplitl [H7]; · iexists g7; rw [View.set_whole]; iexact H7
  isplitl [H8]; · iexists g8; rw [View.set_whole]; iexact H8
  isplitl [H9]; · iexists g9; rw [View.set_whole]; iexact H9
  iintro ⟨H0, H1, H2, H3, ⟨%g7, H7⟩, ⟨%g8, H8⟩, ⟨%g9, H9⟩⟩
  isplitl [H7 H8 H9 Hr]
  · isplitr [Hr]
    · isplitl [H7]; · iexists g7; rw [View.set_whole]; iexact H7
      isplitl [H8]; · iexists g8; rw [View.set_whole]; iexact H8
      iexists g9; rw [View.set_whole]; iexact H9
    · iexact Hr
  isplitl [Ho]; · iexact Ho
  isplitl [H0]; · iexact H0
  isplitl [H1]; · iexact H1
  isplitl [H2]; · iexact H2
  iexact H3

/-- The library's body obligation, at every point. -/
theorem body_obligation (c : Dev nD) : BodyObligationLoose (dats m 0 c) (defs₀ (F := Ideal)) Variants.none () Set.univ := fun t => by
  rw [bigSep_W0, bigSep_W0, Cert.Proof.KernelIdeal.defs₀_row]
  refine triple_restated (sound_body m c t) rfl .rfl fun _ => ?_
  rw [live3]
  exact .rfl

set_option backward.isDefEq.respectTransparency.types false in
set_option maxHeartbeats 1600000 in
/-- The run: it ends with the windows' arrays of the blocks, and every other buffer as the host lines leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Proof.Value

end
-- ==== Proof.ValueArrays.lean ====
/-
  The arrays after the run: every block is a block of one function of the argument array, so the packed bytes, the block
  scales and the per-token scales are those of the argument's rows, transposed as the kernel lays them out.
-/
module

public import proofs.«01_k».proof.Proof.ValueRun
public import Idealize.ShloMosaic.Lib.Pipeline.Value

@[expose] public section

set_option maxRecDepth 16384

noncomputable section

namespace Cert.Proof.Value

open Cert.KernelIdeal Cert.KernelIdeal.Gen
open Idealize.ShloMosaic Idealize.ShloMosaic.TcCoe
open Idealize.ShloMosaic.Pipeline (Dat Cfg Window)
open Cert.Proof.Token

variable (m : (ℓ : Loc nD τ sig) → Buf (Elt Ideal) ℓ)

/-- The argument array. -/
abbrev argX (c : Dev nD) : S16x2048x5504.Idx → EReal := m ((c.tc : Thread nD τ).loc main_arg0)

/-- The row of token `s` of batch `b`. -/
def tokenRow (x : S16x2048x5504.Idx → EReal) (b : Fin 16) (s : Fin 2048) : Row := fun d => x (ix3 b s d)

/-- The batch of point `t`. -/
def batchOf (t : Fin cfg0.N) : Fin 16 := ⟨8 * (t.val / 64) + t.val % 8, by have : t.val < 128 := t.isLt; omega⟩

/-- The token of lane `s` of point `t`'s block. -/
def tokenOf (t : Fin cfg0.N) (s : Fin 256) : Fin 2048 := ⟨256 * (t.val / 8 % 8) + s.val, by omega⟩

theorem idx0 : ∀ t : Fin cfg0.N, win0_0.index t (0 : Fin 3) = 8 * (t.val / 64) + t.val % 8
    ∧ win0_0.index t (1 : Fin 3) = t.val / 8 % 8 ∧ win0_0.index t (2 : Fin 3) = 0 := by decide +kernel
theorem idx1 : ∀ t : Fin cfg0.N, win0_1.index t (0 : Fin 3) = 8 * (t.val / 64) + t.val % 8
    ∧ win0_1.index t (1 : Fin 3) = 0 ∧ win0_1.index t (2 : Fin 3) = t.val / 8 % 8 := by decide +kernel
theorem idx2 : ∀ t : Fin cfg0.N, win0_2.index t (0 : Fin 3) = 8 * (t.val / 64) + t.val % 8
    ∧ win0_2.index t (1 : Fin 3) = 0 ∧ win0_2.index t (2 : Fin 3) = t.val / 8 % 8 := by decide +kernel
theorem idx3 : ∀ t : Fin cfg0.N, win0_3.index t (0 : Fin 3) = t.val / 64
    ∧ win0_3.index t (1 : Fin 3) = 0 ∧ win0_3.index t (2 : Fin 3) = t.val / 8 % 8 := by decide +kernel

/-- A row of point `t`'s input block is a row of the argument. -/
theorem row_inBlk (c : Dev nD) (t : Fin cfg0.N) (s : Fin 256) :
    row (inBlk m c t) s = tokenRow (argX m c) (batchOf t) (tokenOf t s) := by
  funext d
  show (V m c main_arg0) ((win0_0.rect t).emb (ix3 0 s d)) = m ((c.tc : Thread nD τ).loc main_arg0) (ix3 (batchOf t) (tokenOf t s) d)
  rw [V_main_arg0]
  refine congrArg (m ((c.tc : Thread nD τ).loc main_arg0)) (funext fun a => Fin.ext ?_)
  rw [Pipeline.Window.rect_emb_val win0_0]
  obtain ⟨e0, e1, e2⟩ := idx0 t
  match a with
  | ⟨0, _⟩ => show win0_0.index t (0 : Fin 3) * 1 + 0 = 8 * (t.val / 64) + t.val % 8; rw [e0]; omega
  | ⟨1, _⟩ => show win0_0.index t (1 : Fin 3) * 256 + s.val = 256 * (t.val / 8 % 8) + s.val; rw [e1]; omega
  | ⟨2, _⟩ => show win0_0.index t (2 : Fin 3) * 5504 + d.val = d.val; rw [e2]; omega

/-- The packed bytes as the kernel lays them out. -/
def arr1 (x : S16x2048x5504.Idx → EReal) : S16x2752x2048.Idx → BitVec 8 := fun i => byte (tokenRow x (i 0) (i 2)) (i 1)
/-- The block scales as the kernel lays them out. -/
def arr2 (x : S16x2048x5504.Idx → EReal) : S16x344x2048.Idx → EReal := fun i => blockScale (tokenRow x (i 0) (i 2)) (i 1)
/-- The per-token scales as the kernel lays them out. -/
def arr3 (x : S16x2048x5504.Idx → EReal) : S2x8x2048.Idx → EReal := fun i =>
  tokenScale (tokenRow x (⟨8 * (i 0).val + (i 1).val, by have : (i 0).val < 2 := (i 0).isLt; have : (i 1).val < 8 := (i 1).isLt; omega⟩ : Fin 16) (i 2))

theorem flushed1 (c : Dev nD) (t : Fin cfg0.N) :
    (dats m 0 c).flushed 1 t = ((cfg0.win 1).blk t).view.read (Elt Ideal) (arr1 (argX m c)) := by
  show (cfg0.win 1).cut (grid0.coords t) ((dats m 0 c).after 1 t) = _
  rw [after0_1]
  funext y
  show packedBlk (inBlk m c t) y = arr1 (argX m c) ((win0_1.rect t).emb y)
  obtain ⟨e0, e1, e2⟩ := idx1 t
  have h0 : ((win0_1.rect t).emb y (0 : Fin 3) : Fin 16) = batchOf t := Fin.ext (by
    rw [Pipeline.Window.rect_emb_val win0_1]
    have : (y (0 : Fin 3)).val < 1 := (y (0 : Fin 3)).isLt
    show win0_1.index t (0 : Fin 3) * 1 + (y (0 : Fin 3)).val = 8 * (t.val / 64) + t.val % 8; omega)
  have h1 : ((win0_1.rect t).emb y (1 : Fin 3) : Fin 2752) = y (1 : Fin 3) := Fin.ext (by
    rw [Pipeline.Window.rect_emb_val win0_1]
    show win0_1.index t (1 : Fin 3) * 2752 + (y (1 : Fin 3)).val = (y (1 : Fin 3)).val; omega)
  have h2 : ((win0_1.rect t).emb y (2 : Fin 3) : Fin 2048) = tokenOf t (y (2 : Fin 3)) := Fin.ext (by
    rw [Pipeline.Window.rect_emb_val win0_1]
    show win0_1.index t (2 : Fin 3) * 256 + (y (2 : Fin 3)).val = 256 * (t.val / 8 % 8) + (y (2 : Fin 3)).val; omega)
  unfold packedBlk arr1
  rw [h0, h1, h2]
  exact congrArg (fun r => byte r (y (1 : Fin 3))) (row_inBlk m c t (y (2 : Fin 3)))

theorem flushed2 (c : Dev nD) (t : Fin cfg0.N) :
    (dats m 0 c).flushed 2 t = ((cfg0.win 2).blk t).view.read (Elt Ideal) (arr2 (argX m c)) := by
  show (cfg0.win 2).cut (grid0.coords t) ((dats m 0 c).after 2 t) = _
  rw [after0_2]
  funext y
  show scaleBlk (inBlk m c t) y = arr2 (argX m c) ((win0_2.rect t).emb y)
  obtain ⟨e0, e1, e2⟩ := idx2 t
  have h0 : ((win0_2.rect t).emb y (0 : Fin 3) : Fin 16) = batchOf t := Fin.ext (by
    rw [Pipeline.Window.rect_emb_val win0_2]
    have : (y (0 : Fin 3)).val < 1 := (y (0 : Fin 3)).isLt
    show win0_2.index t (0 : Fin 3) * 1 + (y (0 : Fin 3)).val = 8 * (t.val / 64) + t.val % 8; omega)
  have h1 : ((win0_2.rect t).emb y (1 : Fin 3) : Fin 344) = y (1 : Fin 3) := Fin.ext (by
    rw [Pipeline.Window.rect_emb_val win0_2]
    show win0_2.index t (1 : Fin 3) * 344 + (y (1 : Fin 3)).val = (y (1 : Fin 3)).val; omega)
  have h2 : ((win0_2.rect t).emb y (2 : Fin 3) : Fin 2048) = tokenOf t (y (2 : Fin 3)) := Fin.ext (by
    rw [Pipeline.Window.rect_emb_val win0_2]
    show win0_2.index t (2 : Fin 3) * 256 + (y (2 : Fin 3)).val = 256 * (t.val / 8 % 8) + (y (2 : Fin 3)).val; omega)
  unfold scaleBlk arr2
  rw [h0, h1, h2]
  exact congrArg (fun r => blockScale r (y (1 : Fin 3))) (row_inBlk m c t (y (2 : Fin 3)))

/-- The scales are written back at a group's last point, when each row has had its own point. -/
theorem flushed3 (c : Dev nD) (t : Fin cfg0.N) (hf : (cfg0.win 3).flush t = true) :
    (dats m 0 c).flushed 3 t = ((cfg0.win 3).blk t).view.read (Elt Ideal) (arr3 (argX m c)) := by
  show (cfg0.win 3).cut (grid0.coords t) ((dats m 0 c).after 3 t) = _
  rw [after0_3]
  have h7 : t.val % 8 = 7 := (flush0_3 t).1 hf
  funext y
  show tokenAt m c t y = arr3 (argX m c) ((win0_3.rect t).emb y)
  obtain ⟨e0, e1, e2⟩ := idx3 t
  have hy : (y (1 : Fin 3)).val < 8 := (y (1 : Fin 3)).isLt
  have h0 : ((win0_3.rect t).emb y (0 : Fin 3)).val = t.val / 64 := by
    rw [Pipeline.Window.rect_emb_val win0_3]
    have : (y (0 : Fin 3)).val < 1 := (y (0 : Fin 3)).isLt
    show win0_3.index t (0 : Fin 3) * 1 + (y (0 : Fin 3)).val = t.val / 64; omega
  have h1 : ((win0_3.rect t).emb y (1 : Fin 3)).val = (y (1 : Fin 3)).val := by
    rw [Pipeline.Window.rect_emb_val win0_3]
    show win0_3.index t (1 : Fin 3) * 8 + (y (1 : Fin 3)).val = (y (1 : Fin 3)).val; omega
  have h2 : ((win0_3.rect t).emb y (2 : Fin 3) : Fin 2048) = tokenOf (source t (y (1 : Fin 3)).val) (y (2 : Fin 3)) := Fin.ext (by
    rw [Pipeline.Window.rect_emb_val win0_3]
    show win0_3.index t (2 : Fin 3) * 256 + (y (2 : Fin 3)).val = 256 * ((source t (y (1 : Fin 3)).val).val / 8 % 8) + (y (2 : Fin 3)).val
    have : (source t (y (1 : Fin 3)).val).val / 8 = t.val / 8 := by simp only [source]; split <;> omega
    rw [this]; omega)
  have hb : (⟨8 * ((win0_3.rect t).emb y (0 : Fin 3)).val + ((win0_3.rect t).emb y (1 : Fin 3)).val, by rw [h0, h1]; have : t.val < 128 := t.isLt; omega⟩ : Fin 16)
      = batchOf (source t (y (1 : Fin 3)).val) := Fin.ext (by
    show 8 * ((win0_3.rect t).emb y (0 : Fin 3)).val + ((win0_3.rect t).emb y (1 : Fin 3)).val = 8 * ((source t (y (1 : Fin 3)).val).val / 64) + (source t (y (1 : Fin 3)).val).val % 8
    rw [h0, h1]
    simp only [source]; split <;> omega)
  unfold tokenAt arr3
  rw [hb, h2]
  exact congrArg tokenScale (row_inBlk m c _ (y (2 : Fin 3)))

theorem cover1 (i : S16x2752x2048.Idx) : ∃ t : Fin cfg0.N, (cfg0.win 1).flush t = true ∧ i ∈ ((cfg0.win 1).blk t).view.set := by
  have h0 : (i 0).val < 16 := (i 0).isLt
  have h1 : (i 1).val < 2752 := (i 1).isLt
  have h2 : (i 2).val < 2048 := (i 2).isLt
  have hm : ∀ t : Fin cfg0.N, i ∈ ((cfg0.win 1).blk t).view.set ↔ ∀ a, win0_1.index t a * win0_1.size a ≤ (i a : Nat) ∧ (i a : Nat) < win0_1.index t a * win0_1.size a + win0_1.xsize (grid0.coords t) a := fun t => by
    show i ∈ ((View.whole main_v0_0).slice (win0_1.rect t)).set ↔ _
    rw [View.set_slice_whole, Rect.mem_set_unit]
  refine ⟨(⟨64 * ((i 0).val / 8) + 8 * ((i 2).val / 256) + (i 0).val % 8, by show _ < 128; omega⟩ : Fin cfg0.N), flush0_1 _, ?_⟩
  rw [hm]
  obtain ⟨e0, e1, e2⟩ := idx1 (⟨64 * ((i 0).val / 8) + 8 * ((i 2).val / 256) + (i 0).val % 8, by show _ < 128; omega⟩ : Fin cfg0.N)
  simp only at e0 e1 e2
  intro a
  match a with
  | ⟨0, _⟩ => show win0_1.index _ (0 : Fin 3) * 1 ≤ (i 0).val ∧ (i 0).val < win0_1.index _ (0 : Fin 3) * 1 + 1; rw [e0]; omega
  | ⟨1, _⟩ => show win0_1.index _ (1 : Fin 3) * 2752 ≤ (i 1).val ∧ (i 1).val < win0_1.index _ (1 : Fin 3) * 2752 + 2752; rw [e1]; omega
  | ⟨2, _⟩ => show win0_1.index _ (2 : Fin 3) * 256 ≤ (i 2).val ∧ (i 2).val < win0_1.index _ (2 : Fin 3) * 256 + 256; rw [e2]; omega

theorem cover2 (i : S16x344x2048.Idx) : ∃ t : Fin cfg0.N, (cfg0.win 2).flush t = true ∧ i ∈ ((cfg0.win 2).blk t).view.set := by
  have h0 : (i 0).val < 16 := (i 0).isLt
  have h1 : (i 1).val < 344 := (i 1).isLt
  have h2 : (i 2).val < 2048 := (i 2).isLt
  have hm : ∀ t : Fin cfg0.N, i ∈ ((cfg0.win 2).blk t).view.set ↔ ∀ a, win0_2.index t a * win0_2.size a ≤ (i a : Nat) ∧ (i a : Nat) < win0_2.index t a * win0_2.size a + win0_2.xsize (grid0.coords t) a := fun t => by
    show i ∈ ((View.whole main_v0_1).slice (win0_2.rect t)).set ↔ _
    rw [View.set_slice_whole, Rect.mem_set_unit]
  refine ⟨(⟨64 * ((i 0).val / 8) + 8 * ((i 2).val / 256) + (i 0).val % 8, by show _ < 128; omega⟩ : Fin cfg0.N), flush0_2 _, ?_⟩
  rw [hm]
  obtain ⟨e0, e1, e2⟩ := idx2 (⟨64 * ((i 0).val / 8) + 8 * ((i 2).val / 256) + (i 0).val % 8, by show _ < 128; omega⟩ : Fin cfg0.N)
  simp only at e0 e1 e2
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 344 ≤ (i 1).val ∧ (i 1).val < win0_2.index _ (1 : Fin 3) * 344 + 344; rw [e1]; omega
  | ⟨2, _⟩ => show win0_2.index _ (2 : Fin 3) * 256 ≤ (i 2).val ∧ (i 2).val < win0_2.index _ (2 : Fin 3) * 256 + 256; rw [e2]; omega

theorem cover3 (i : S2x8x2048.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 2048 := (i 2).isLt
  have hm : ∀ t : Fin cfg0.N, i ∈ ((cfg0.win 3).blk t).view.set ↔ ∀ a, win0_3.index t a * win0_3.size a ≤ (i a : Nat) ∧ (i a : Nat) < win0_3.index t a * win0_3.size a + win0_3.xsize (grid0.coords t) a := fun t => by
    show i ∈ ((View.whole main_v0_2).slice (win0_3.rect t)).set ↔ _
    rw [View.set_slice_whole, Rect.mem_set_unit]
  refine ⟨(⟨64 * (i 0).val + 8 * ((i 2).val / 256) + 7, by show _ < 128; omega⟩ : Fin cfg0.N), (flush0_3 _).2 (by simp only; omega), ?_⟩
  rw [hm]
  obtain ⟨e0, e1, e2⟩ := idx3 (⟨64 * (i 0).val + 8 * ((i 2).val / 256) + 7, by show _ < 128; omega⟩ : Fin cfg0.N)
  simp only at e0 e1 e2
  intro a
  match a with
  | ⟨0, _⟩ => show win0_3.index _ (0 : Fin 3) * 1 ≤ (i 0).val ∧ (i 0).val < win0_3.index _ (0 : Fin 3) * 1 + 1; rw [e0]; omega
  | ⟨1, _⟩ => show win0_3.index _ (1 : Fin 3) * 8 ≤ (i 1).val ∧ (i 1).val < win0_3.index _ (1 : Fin 3) * 8 + 8; rw [e1]; omega
  | ⟨2, _⟩ => show win0_3.index _ (2 : Fin 3) * 256 ≤ (i 2).val ∧ (i 2).val < win0_3.index _ (2 : Fin 3) * 256 + 256; rw [e2]; omega

theorem final1 (c : Dev nD) : (dats m 0 c).arrAt 1 cfg0.N = arr1 (argX m c) :=
  (dats m 0 c).arrAt_eq_of_cover 1 (arr1 (argX m c)) (fun t _ => flushed1 m c t) cover1
theorem final2 (c : Dev nD) : (dats m 0 c).arrAt 2 cfg0.N = arr2 (argX m c) :=
  (dats m 0 c).arrAt_eq_of_cover 2 (arr2 (argX m c)) (fun t _ => flushed2 m c t) cover2
theorem final3 (c : Dev nD) : (dats m 0 c).arrAt 3 cfg0.N = arr3 (argX m c) :=
  (dats m 0 c).arrAt_eq_of_cover 3 (arr3 (argX m c)) (flushed3 m c) cover3

end Cert.Proof.Value

end
-- ==== Proof.KernelValue.lean ====
/-
  The kernel's run with its three results named: the packed bytes and block scales transposed back to token-major order,
  the per-token scales reshaped to batch by token.
-/
module

public import proofs.«01_k».proof.Proof.ValueArrays
public import Idealize.ShloMosaic.Lib.Pointwise

@[expose] public section

set_option maxRecDepth 16384

noncomputable section

namespace Cert.Proof.Value

open Cert.KernelIdeal Cert.KernelIdeal.Gen
open Idealize.ShloMosaic Idealize.ShloMosaic.TcCoe Idealize.SL.Sem
open Cert.Proof.Token

/-- Result 1: the packed bytes of every token. -/
def res1 (x : S16x2048x5504.Idx → EReal) : S16x2048x2752.Idx → BitVec 8 := fun i => byte (tokenRow x (i 0) (i 1)) (i 2)
/-- Result 2: the block scales of every token. -/
def res2 (x : S16x2048x5504.Idx → EReal) : S16x2048x344.Idx → EReal := fun i => blockScale (tokenRow x (i 0) (i 1)) (i 2)
/-- Result 3: the per-token scale of every token. -/
def res3 (x : S16x2048x5504.Idx → EReal) : S16x2048.Idx → EReal := fun i => tokenScale (tokenRow x (i 0) (i 1))

variable (m : (ℓ : Loc nD τ sig) → Buf (Elt Ideal) ℓ) (g : Dev nD → PrngReg)

theorem withArrays1 (c : Dev nD) :
    Pipeline.withArrays cfg0.spec c (V0 m c) (fun w => (dats m 0 c).arrAt w cfg0.N) (Proc.devRef .tc main_v0_0) = arr1 (argX m c) :=
  (Pipeline.withArrays_arr cfg0.spec launch0.win.arr_inj c _ _ 1).trans (final1 m c)
theorem withArrays2 (c : Dev nD) :
    Pipeline.withArrays cfg0.spec c (V0 m c) (fun w => (dats m 0 c).arrAt w cfg0.N) (Proc.devRef .tc main_v0_1) = arr2 (argX m c) :=
  (Pipeline.withArrays_arr cfg0.spec launch0.win.arr_inj c _ _ 2).trans (final2 m c)
theorem withArrays3 (c : Dev nD) :
    Pipeline.withArrays cfg0.spec c (V0 m c) (fun w => (dats m 0 c).arrAt w cfg0.N) (Proc.devRef .tc main_v0_2) = arr3 (argX m c) :=
  (Pipeline.withArrays_arr cfg0.spec launch0.win.arr_inj c _ _ 3).trans (final3 m c)

theorem transposed1 (x : S16x2048x5504.Idx → EReal) :
    transpose S16x2048x2752 [0, 2, 1] (arr1 x) transposes_S16x2752x2048_S16x2048x2752_0_2_1 = res1 x := by
  funext i; rw [← ix3_eta i]; pointwise [arr1, res1]
theorem transposed2 (x : S16x2048x5504.Idx → EReal) :
    transpose S16x2048x344 [0, 2, 1] (arr2 x) transposes_S16x344x2048_S16x2048x344_0_2_1 = res2 x := by
  funext i; rw [← ix3_eta i]; pointwise [arr2, res2]

/-- Batch `b` is row `b % 8` of group `b / 8`. -/
theorem reshape_index (b : Fin 16) (s : Fin 2048) :
    Shape.reshapeEquiv shapeCasts_S2x8x2048_S16x2048 (ix2 b s)
      = ix3 (⟨b.val / 8, by omega⟩ : Fin 2) (⟨b.val % 8, by omega⟩ : Fin 8) s := by
  refine Shape.reshapeEquiv_eq_of_rowMajor _ ?_
  rw [Shape.rowMajor_val_three, Shape.rowMajor_val_two]
  show ((b.val / 8) * 8 + b.val % 8) * 2048 + s.val = b.val * 2048 + s.val
  omega

theorem reshaped3 (x : S16x2048x5504.Idx → EReal) :
    shapeCast S16x2048 (arr3 x) shapeCasts_S2x8x2048_S16x2048 = res3 x := by
  funext i
  rw [← ix2_eta i]
  refine (congrArg (arr3 x) (reshape_index (i 0) (i 1))).trans ?_
  unfold arr3 res3
  have h : (⟨8 * ((i 0).val / 8) + (i 0).val % 8, by have : (i 0).val < 16 := (i 0).isLt; omega⟩ : Fin 16) = i 0 := Fin.ext (by simp only; omega)
  exact congrArg (fun b => tokenScale (tokenRow x b (i 1))) h

theorem tail1 (c : Dev nD) : Pipeline.afterTail₀ cfgs (dats m) 0 (V0 m) [hostOps1] c main_v1 = res1 (argX m c) := by
  unfold Pipeline.afterTail₀
  show StableHlo.after hostOps1 _ (Proc.devRef .tc main_v1) = _
  after_results
  exact (congrArg (fun z => transpose S16x2048x2752 [0, 2, 1] z transposes_S16x2752x2048_S16x2048x2752_0_2_1) (withArrays1 m c)).trans (transposed1 _)

theorem tail2 (c : Dev nD) : Pipeline.afterTail₀ cfgs (dats m) 0 (V0 m) [hostOps1] c main_v2 = res2 (argX m c) := by
  unfold Pipeline.afterTail₀
  show StableHlo.after hostOps1 _ (Proc.devRef .tc main_v2) = _
  after_results
  exact (congrArg (fun z => transpose S16x2048x344 [0, 2, 1] z transposes_S16x344x2048_S16x2048x344_0_2_1) (withArrays2 m c)).trans (transposed2 _)

theorem tail3 (c : Dev nD) : Pipeline.afterTail₀ cfgs (dats m) 0 (V0 m) [hostOps1] c main_v3 = res3 (argX m c) := by
  unfold Pipeline.afterTail₀
  show StableHlo.after hostOps1 _ (Proc.devRef .tc main_v3) = _
  after_results
  exact (congrArg (fun z => shapeCast S16x2048 z shapeCasts_S2x8x2048_S16x2048) (withArrays3 m c)).trans (reshaped3 _)

/-- The kernel's run: every result is its function of the argument, and the argument is unchanged. -/
theorem kernel_run : θ_run defs (onTc (τ := τ) (main (F := Ideal))) ⟨m, fun _ => 0, g⟩ fun r => ∀ c : Dev nD,
    r.2.mem ((c.tc : Thread nD τ).loc main_v1) = res1 (argX m c)
    ∧ r.2.mem ((c.tc : Thread nD τ).loc main_v2) = res2 (argX m c)
    ∧ r.2.mem ((c.tc : Thread nD τ).loc main_v3) = res3 (argX m c)
    ∧ r.2.mem ((c.tc : Thread nD τ).loc main_arg0) = m ((c.tc : Thread nD τ).loc main_arg0) :=
  (θ_run defs _ _).mono (fun r h c =>
    ⟨((h c).2 main_v1 (by decide)).trans (tail1 m c), ((h c).2 main_v2 (by decide)).trans (tail2 m c),
      ((h c).2 main_v3 (by decide)).trans (tail3 m c),
      ((h c).1 0).trans (((dats m 0 c).arrAt_in 0 rfl _).trans ((A_eq m c 0).trans (V_main_arg0 m c)))⟩) (run_main m g)

end Cert.Proof.Value

end
-- ==== Proof.RefScales.lean ====
/-
  The reference's scales, token by token: the block maxima, the token's scale, the block scales and the clipped quotients
  are those of the token's row.
-/
module

public import proofs.«01_k».proof.Proof.Gen.ReferenceIdeal.Value
public import proofs.«01_k».proof.Proof.ScaleValue
public import Idealize.ShloMosaic.Lib.Pointwise

@[expose] public section

set_option maxRecDepth 16384

noncomputable section

namespace Cert.Proof.Reference

open Cert.ReferenceIdeal Cert.ReferenceIdeal.Gen
open Idealize.ShloMosaic Cert.Proof.Token

/-- The row of token `s` of batch `b`. -/
def tokenRow (x : S16x2048x5504.Idx → EReal) (b : Fin 16) (s : Fin 2048) : Row := fun d => x (ix3 b s d)

/-! The elementwise operations, read at an index. -/

section At
variable {s : Shape} {φ : FTy}
theorem mulf_at (a b : FVec Ideal s φ) (i : s.Idx) : (mulf a b i : EReal) = (a i : EReal) * (b i : EReal) := rfl
theorem subf_at (a b : FVec Ideal s φ) (i : s.Idx) : (subf a b i : EReal) = (a i : EReal) - (b i : EReal) := rfl
theorem divf_at (a b : FVec Ideal s φ) (i : s.Idx) : (divf a b i : EReal) = Ideal.div (a i) (b i) := rfl
theorem minf_at (a b : FVec Ideal s φ) (i : s.Idx) : (minimumf a b i : EReal) = min (a i : EReal) (b i : EReal) := rfl
theorem maxf_at (a b : FVec Ideal s φ) (i : s.Idx) : (maximumf a b i : EReal) = max (a i : EReal) (b i : EReal) := rfl
theorem absf_at (a : FVec Ideal s φ) (i : s.Idx) : (absf a i : EReal) = max (a i : EReal) (-(a i : EReal)) := rfl
theorem extf_at {ψ : FTy} (a : FVec Ideal s φ) (h : φ.bits < ψ.bits) (i : s.Idx) : (extf ψ a h i : EReal) = a i := rfl
theorem truncf_at {ψ : FTy} (a : FVec Ideal s φ) (h : ψ.bits < φ.bits) (i : s.Idx) : (truncf ψ a h i : EReal) = a i := rfl
theorem roundeven_at (a : FVec Ideal s φ) (i : s.Idx) : (roundeven a i : EReal) = Ideal.liftRound Ideal.roundHalfEven (a i) := rfl
theorem const_at (w : BitVec 32) (i : s.Idx) : (broadcast s (Scalar.ofBits (F := Ideal) .f32 w) i : EReal) = Ideal.ofBits .f32 w := rfl
theorem olt_at (a b : FVec Ideal s φ) (i : s.Idx) : cmpf .olt a b i = BitVec.ofBool (decide ((a i : EReal) < (b i : EReal))) := rfl
theorem ogt_at (a b : FVec Ideal s φ) (i : s.Idx) : cmpf .ogt a b i = BitVec.ofBool (decide ((b i : EReal) < (a i : EReal))) := rfl
theorem oge_at (a b : FVec Ideal s φ) (i : s.Idx) : cmpf .oge a b i = BitVec.ofBool (decide ((b i : EReal) ≤ (a i : EReal))) := rfl
theorem oeq_at (a b : FVec Ideal s φ) (i : s.Idx) : cmpf .oeq a b i = BitVec.ofBool (decide ((a i : EReal) = (b i : EReal))) := rfl
theorem select_at {α : Type} (p : s.Idx → Prop) [DecidablePred p] (c : IVec s 1) (a b : s.Idx → α) (i : s.Idx)
    (hc : c i = BitVec.ofBool (decide (p i))) : select c a b i = if p i then a i else b i := by
  show (if c i = 1 then a i else b i) = _
  rw [hc]
  exact Value.select_ofBool _ _ _
end At

variable (x : S16x2048x5504.Idx → EReal)

/-- Value `e` of block `k` of a token. -/
theorem pay2_apply (b : Fin 16) (s : Fin 2048) (k : Fin 344) (e : Fin 16) :
    (k0_pay2 (F := Ideal) x (ix4 b s k e) : EReal) = tokenRow x b s (pos k e) := by
  refine congrArg x ((Shape.reshapeEquiv_eq_of_rowMajor shapeCasts_S16x2048x5504_S16x2048x344x16 (y := ix3 b s (pos k e)) ?_))
  rw [Shape.rowMajor_val_three, Shape.rowMajor_val_four]
  show (b.val * 2048 + s.val) * 5504 + (16 * k.val + e.val) = ((b.val * 2048 + s.val) * 344 + k.val) * 16 + e.val
  omega

/-- The block maxima. -/
theorem pay3_apply (b : Fin 16) (s : Fin 2048) (k : Fin 344) :
    (k0_pay3 (F := Ideal) x (ix3 b s k) : EReal) = amax (tokenRow x b s) k := by
  have h : (k0_pay3 (F := Ideal) x (ix3 b s k) : EReal) = Finset.univ.fold max (Ideal.ofBits FTy.f32 0xFF800000#32) fun e : Fin 16 =>
      max (k0_pay2 (F := Ideal) x (ix4 b s k e) : EReal) (-(k0_pay2 (F := Ideal) x (ix4 b s k e) : EReal)) := by
    pointwise [k0_pay3]
    rfl
  rw [h]
  refine eq_of_forall_ge_iff fun u => ?_
  rw [Finset.fold_max_le, Value.c_negInf, amax_le_iff]
  simp only [pay2_apply, bot_le, true_and, Finset.mem_univ, true_implies]

/-- The word of 2688. -/
theorem c_2688 : Ideal.ofBits .f32 0x45280000#32 = ((2688 : ℝ) : EReal) := by
  simp [Ideal.ofBits, Ideal.ieee, -EReal.coe_mul]; norm_num
theorem c_1 : Ideal.ofBits .f32 0x3F800000#32 = ((1 : ℝ) : EReal) := by
  simp [Ideal.ofBits, Ideal.ieee, -EReal.coe_mul]; norm_num

/-- A maximum over a token's blocks. -/
theorem max_blocks (v : FVec Ideal S16x2048x344 .f32) (b : Fin 16) (s : Fin 2048) :
    (multiReduction (F := Ideal) .maximumf [2] S16x2048 v 0xFF800000#32 reduces_S16x2048x344_S16x2048 (.inl rfl) rfl (ix2 b s) : EReal)
      = Finset.univ.fold max (Ideal.ofBits FTy.f32 0xFF800000#32) fun k : Fin 344 => (v (ix3 b s k) : EReal) := by
  pointwise

/-- The token's scale: dividing by 2688 is multiplying by its reciprocal. -/
theorem pay4_apply (b : Fin 16) (s : Fin 2048) :
    (k0_pay4 (F := Ideal) x (ix2 b s) : EReal) = tokenScale (tokenRow x b s) := by
  have hf : (multiReduction (F := Ideal) .maximumf [2] S16x2048 (k0_pay3 (F := Ideal) x) 0xFF800000#32 reduces_S16x2048x344_S16x2048 (.inl rfl) rfl (ix2 b s) : EReal)
      = rowMax (tokenRow x b s) := by
    rw [max_blocks]
    refine eq_of_forall_ge_iff fun u => ?_
    rw [Finset.fold_max_le, Value.c_negInf, rowMax_le_iff]
    simp only [pay3_apply, bot_le, true_and, Finset.mem_univ, true_implies]
  unfold k0_pay4
  generalize multiReduction (F := Ideal) .maximumf [2] S16x2048 (k0_pay3 (F := Ideal) x) 0xFF800000#32 reduces_S16x2048x344_S16x2048 (.inl rfl) rfl = R at hf ⊢
  refine (select_at (fun i => Ideal.ofBits FTy.f32 0x00000000#32 < (R i : EReal)) _ _ _ _ (ogt_at _ _ _)).trans ?_
  rw [divf_at, const_at, const_at, hf, c_2688, Ideal.div_coe (by norm_num), Value.c_0, c_1]
  rfl

/-- A value per token, as a column, repeated over the token's blocks. -/
theorem column_apply (v : FVec Ideal S16x2048x1 .f32) (b : Fin 16) (s : Fin 2048) (k : Fin 344) :
    (broadcastTo S16x2048x344 v broadcasts_S16x2048x1_S16x2048x344 (ix3 b s k) : EReal) = v (ix3 b s 0) := by
  pointwise

theorem toColumn_apply (v : FVec Ideal S16x2048 .f32) (b : Fin 16) (s : Fin 2048) :
    (shapeCast S16x2048x1 v shapeCasts_S16x2048_S16x2048x1 (ix3 b s 0) : EReal) = v (ix2 b s) := by
  refine congrArg v ((Shape.reshapeEquiv_eq_of_rowMajor shapeCasts_S16x2048_S16x2048x1 (y := ix2 b s) ?_))
  rw [Shape.rowMajor_val_three, Shape.rowMajor_val_two]
  show b.val * 2048 + s.val = (b.val * 2048 + s.val) * 1 + 0
  omega

/-- A value per block, repeated over the block's values. -/
theorem perBlock_apply (v : FVec Ideal S16x2048x344 .f32) (b : Fin 16) (s : Fin 2048) (k : Fin 344) (e : Fin 16) :
    (broadcastTo S16x2048x344x16 (shapeCast S16x2048x344x1 v shapeCasts_S16x2048x344_S16x2048x344x1) broadcasts_S16x2048x344x1_S16x2048x344x16 (ix4 b s k e) : EReal)
      = v (ix3 b s k) := by
  have h : ∀ w : FVec Ideal S16x2048x344x1 .f32, (broadcastTo S16x2048x344x16 w broadcasts_S16x2048x344x1_S16x2048x344x16 (ix4 b s k e) : EReal) = w (ix4 b s k 0) := by
    intro w; pointwise
  rw [h]
  refine congrArg v ((Shape.reshapeEquiv_eq_of_rowMajor shapeCasts_S16x2048x344_S16x2048x344x1 (y := ix3 b s k) ?_))
  rw [Shape.rowMajor_val_three, Shape.rowMajor_val_four]
  show (b.val * 2048 + s.val) * 344 + k.val = ((b.val * 2048 + s.val) * 344 + k.val) * 1 + 0
  omega

/-- The block scales. -/
theorem pay5_apply (b : Fin 16) (s : Fin 2048) (k : Fin 344) :
    (k0_pay5 (F := Ideal) x (ix3 b s k) : EReal) = blockScale (tokenRow x b s) k := by
  unfold k0_pay5
  refine (truncf_at (φ := .f32) (ψ := .fp8e4m3) _ bitsLt_fp8e4m3_f32 _).trans ?_
  rw [minf_at, divf_at, const_at, pay3_apply, column_apply, mulf_at, const_at, toColumn_apply, pay4_apply, Value.c_6, Value.c_448]
  rfl

/-- The product of the two scales. -/
def prod (x : S16x2048x5504.Idx → EReal) : FVec Ideal S16x2048x344 .f32 :=
  mulf (extf .f32 (k0_pay5 (F := Ideal) x) bitsLt_fp8e4m3_f32)
    (broadcastTo S16x2048x344 (shapeCast S16x2048x1 (k0_pay4 (F := Ideal) x) shapeCasts_S16x2048_S16x2048x1) broadcasts_S16x2048x1_S16x2048x344)

/-- What a block's values are divided by. -/
def den (x : S16x2048x5504.Idx → EReal) : FVec Ideal S16x2048x344 .f32 :=
  select (cmpf .oeq (prod x) (broadcast S16x2048x344 (Scalar.ofBits .f32 0x00000000#32))) (broadcast S16x2048x344 (Scalar.ofBits .f32 0x3F800000#32)) (prod x)

theorem prod_apply (b : Fin 16) (s : Fin 2048) (k : Fin 344) :
    (prod x (ix3 b s k) : EReal) = blockScale (tokenRow x b s) k * tokenScale (tokenRow x b s) := by
  unfold prod
  rw [mulf_at, extf_at, column_apply, toColumn_apply, pay4_apply, pay5_apply]

theorem den_apply (b : Fin 16) (s : Fin 2048) (k : Fin 344) :
    (den x (ix3 b s k) : EReal) = divisor (tokenRow x b s) k := by
  have hp := prod_apply x b s k
  unfold den
  generalize prod x = p at hp ⊢
  refine (select_at (fun i => (p i : EReal) = Ideal.ofBits FTy.f32 0x00000000#32) _ _ _ _ (oeq_at _ _ _)).trans ?_
  rw [const_at, hp, Value.c_0, c_1]
  rfl

theorem pay6_eq : k0_pay6 (F := Ideal) x = minimumf (broadcast S16x2048x344x16 (Scalar.ofBits .f32 0x40C00000#32))
    (maximumf (broadcast S16x2048x344x16 (Scalar.ofBits .f32 0xC0C00000#32)) (divf (k0_pay2 (F := Ideal) x)
      (broadcastTo S16x2048x344x16 (shapeCast S16x2048x344x1 (den x) shapeCasts_S16x2048x344_S16x2048x344x1) broadcasts_S16x2048x344x1_S16x2048x344x16))) := rfl

/-- The clipped quotients. -/
theorem pay6_apply (b : Fin 16) (s : Fin 2048) (k : Fin 344) (e : Fin 16) :
    (k0_pay6 (F := Ideal) x (ix4 b s k e) : EReal) = clip (Ideal.div (tokenRow x b s (pos k e)) (divisor (tokenRow x b s) k)) := by
  rw [pay6_eq, minf_at, maxf_at, divf_at, const_at, const_at, pay2_apply, perBlock_apply, den_apply, Value.c_6, Value.c_neg6]
  rfl

end Cert.Proof.Reference

end
-- ==== Proof.RefBytes.lean ====
/-
  The reference's bytes: the code of every clipped quotient, and two codes to a byte.
-/
module

public import proofs.«01_k».proof.Proof.RefScales

@[expose] public section

set_option maxRecDepth 16384

noncomputable section

namespace Cert.Proof.Reference

open Cert.ReferenceIdeal Cert.ReferenceIdeal.Gen
open Idealize.ShloMosaic Cert.Proof.Token Cert.Proof.E2M1

theorem c_half : Ideal.ofBits .f32 0x3F000000#32 = ((1 / 2 : ℝ) : EReal) := by
  simp [Ideal.ofBits, Ideal.ieee, -EReal.coe_mul]; norm_num
theorem c_3_2 : Ideal.ofBits .f32 0x3FC00000#32 = ((3 / 2 : ℝ) : EReal) := by
  simp [Ideal.ofBits, Ideal.ieee, -EReal.coe_mul]; norm_num
theorem c_2 : Ideal.ofBits .f32 0x40000000#32 = ((2 : ℝ) : EReal) := by
  simp [Ideal.ofBits, Ideal.ieee, -EReal.coe_mul]; norm_num
theorem c_3 : Ideal.ofBits .f32 0x40400000#32 = ((3 : ℝ) : EReal) := by
  simp [Ideal.ofBits, Ideal.ieee, -EReal.coe_mul]; norm_num
theorem c_4 : Ideal.ofBits .f32 0x40800000#32 = ((4 : ℝ) : EReal) := by
  simp [Ideal.ofBits, Ideal.ieee, -EReal.coe_mul]; norm_num

/-- A truth value widened to a byte. -/
theorem setWidth_ofBool (p : Prop) [Decidable p] : (BitVec.ofBool (decide p)).setWidth 8 = if p then 1#8 else 0#8 := by
  split <;> next h => simp [h]

/-- The count in bytes, as the reference takes it. -/
theorem refCode_byte (v : EReal) : (refCode v).setWidth 8 =
    (if (if v < 0 then 0 - rounded v else rounded v) < 0 then 8#8 else 0#8)
      + (0#8 + (if ((1 / 2 : ℝ) : EReal) ≤ rounded v then 1#8 else 0#8) + (if ((1 : ℝ) : EReal) ≤ rounded v then 1#8 else 0#8)
        + (if ((3 / 2 : ℝ) : EReal) ≤ rounded v then 1#8 else 0#8) + (if ((2 : ℝ) : EReal) ≤ rounded v then 1#8 else 0#8)
        + (if ((3 : ℝ) : EReal) ≤ rounded v then 1#8 else 0#8) + (if ((4 : ℝ) : EReal) ≤ rounded v then 1#8 else 0#8)
        + (if ((6 : ℝ) : EReal) ≤ rounded v then 1#8 else 0#8)) := by
  have one : ∀ (p : Prop) [Decidable p] (a : BitVec 32), (if p then a else 0#32).setWidth 8 = if p then a.setWidth 8 else 0#8 := by
    intro p _ a; split <;> rfl
  unfold refCode reached
  simp only [BitVec.setWidth_add _ _ (by decide : 8 ≤ 32), one]
  rfl

section At
variable {s : Shape}
theorem addi_at {w : Nat} (a b : IVec s w) (i : s.Idx) : addi a b i = a i + b i := rfl
theorem extui_at (a : IVec s 1) (h : 1 < 8) (i : s.Idx) : extui 8 a h i = (a i).setWidth 8 := rfl
theorem word_at {w : Nat} (a : BitVec w) (i : s.Idx) : broadcast s a i = a := rfl

/-- A constant over a shape. -/
abbrev cst (s : Shape) (w : BitVec 32) : FVec Ideal s .f32 := broadcast s (Scalar.ofBits (F := Ideal) .f32 w)

theorem cst_at (w : BitVec 32) (i : s.Idx) : (cst s w i : EReal) = Ideal.ofBits .f32 w := rfl

/-- The step of each value's binade. -/
def stepOf (v : FVec Ideal s .f32) : FVec Ideal s .f32 :=
  select (cmpf .olt (absf v) (cst s 0x40000000#32)) (cst s 0x3F000000#32)
    (select (cmpf .olt (absf v) (cst s 0x40800000#32)) (cst s 0x3F800000#32) (cst s 0x40000000#32))

/-- The rounded absolute values. -/
def roundedOf (v : FVec Ideal s .f32) : FVec Ideal s .f32 := mulf (roundeven (divf (absf v) (stepOf v))) (stepOf v)

/-- The codes, from the values and their rounded absolute values. -/
def codesOf (v q : FVec Ideal s .f32) : IVec s 8 :=
  addi (select (cmpf .olt (select (cmpf .olt v (cst s 0x00000000#32)) (subf (cst s 0x00000000#32) q) q) (cst s 0x00000000#32))
      (broadcast s 8#8) (broadcast s 0#8))
    (addi (addi (addi (addi (addi (addi (addi (broadcast s 0#8)
      (extui 8 (cmpf .oge q (cst s 0x3F000000#32)) natLt_1_8))
      (extui 8 (cmpf .oge q (cst s 0x3F800000#32)) natLt_1_8))
      (extui 8 (cmpf .oge q (cst s 0x3FC00000#32)) natLt_1_8))
      (extui 8 (cmpf .oge q (cst s 0x40000000#32)) natLt_1_8))
      (extui 8 (cmpf .oge q (cst s 0x40400000#32)) natLt_1_8))
      (extui 8 (cmpf .oge q (cst s 0x40800000#32)) natLt_1_8))
      (extui 8 (cmpf .oge q (cst s 0x40C00000#32)) natLt_1_8))

theorem stepOf_apply (v : FVec Ideal s .f32) (i : s.Idx) : (stepOf v i : EReal) = step (abs (v i)) := by
  unfold stepOf
  refine (select_at (fun i => (absf v i : EReal) < Ideal.ofBits FTy.f32 0x40000000#32) _ _ _ _ (olt_at _ _ _)).trans ?_
  rw [select_at (fun i => (absf v i : EReal) < Ideal.ofBits FTy.f32 0x40800000#32) _ _ _ _ (olt_at _ _ _)]
  rw [cst_at, cst_at, cst_at, absf_at, c_half, c_2, c_4, c_1]
  rfl

theorem roundedOf_apply (v : FVec Ideal s .f32) (i : s.Idx) : (roundedOf v i : EReal) = rounded (v i) := by
  unfold roundedOf
  rw [mulf_at, roundeven_at, divf_at, stepOf_apply, absf_at]
  rfl

/-- The reference's code of each value. -/
theorem codesOf_apply (v : FVec Ideal s .f32) (i : s.Idx) : codesOf v (roundedOf v) i = (refCode (v i)).setWidth 8 := by
  have hq := roundedOf_apply v i
  unfold codesOf
  generalize roundedOf v = q at hq ⊢
  have hs : (select (cmpf .olt v (cst s 0x00000000#32)) (subf (cst s 0x00000000#32) q) q i : EReal)
      = if (v i : EReal) < 0 then 0 - rounded (v i) else rounded (v i) := by
    refine (select_at (fun i => (v i : EReal) < Ideal.ofBits FTy.f32 0x00000000#32) _ _ _ _ (olt_at _ _ _)).trans ?_
    rw [subf_at, cst_at, hq, Value.c_0]
  generalize select (cmpf .olt v (cst s 0x00000000#32)) (subf (cst s 0x00000000#32) q) q = z at hs ⊢
  have hz : select (cmpf .olt z (cst s 0x00000000#32)) (broadcast s 8#8) (broadcast s 0#8) i
      = if (if (v i : EReal) < 0 then 0 - rounded (v i) else rounded (v i)) < 0 then 8#8 else 0#8 := by
    refine (select_at (fun i => (z i : EReal) < Ideal.ofBits FTy.f32 0x00000000#32) _ _ _ _ (olt_at _ _ _)).trans ?_
    rw [hs, word_at, word_at, Value.c_0]
  rw [refCode_byte]
  simp only [addi_at, extui_at, oge_at, cst_at, word_at, hz, hq, setWidth_ofBool, c_half, c_1, c_3_2, c_2, c_3, c_4, Value.c_6]
end At

/-- The reference's codes are those of its clipped quotients. -/
theorem pay12_eq (x : S16x2048x5504.Idx → EReal) :
    k0_pay12 (k0_pay6 (F := Ideal) x) (k0_pay7 (F := Ideal) x) (k0_pay8 (F := Ideal) x) (k0_pay9 (F := Ideal) x) (k0_pay10 (F := Ideal)) (k0_pay11 (F := Ideal))
      = codesOf (k0_pay6 (F := Ideal) x) (roundedOf (k0_pay6 (F := Ideal) x)) := by
  unfold k0_pay12 k0_pay8 k0_pay9 k0_pay7
  generalize k0_pay6 (F := Ideal) x = v
  rfl

theorem codes_apply (x : S16x2048x5504.Idx → EReal) (b : Fin 16) (s : Fin 2048) (k : Fin 344) (e : Fin 16) :
    k0_pay12 (k0_pay6 (F := Ideal) x) (k0_pay7 (F := Ideal) x) (k0_pay8 (F := Ideal) x) (k0_pay9 (F := Ideal) x) (k0_pay10 (F := Ideal)) (k0_pay11 (F := Ideal)) (ix4 b s k e)
      = (code (clip (Ideal.div (tokenRow x b s (pos k e)) (divisor (tokenRow x b s) k)))).setWidth 8 := by
  rw [pay12_eq, codesOf_apply, pay6_apply]
  obtain ⟨r, hr, hb⟩ := clip_real (Ideal.div (tokenRow x b s (pos k e)) (divisor (tokenRow x b s) k))
  rw [hr, refCode_coe hb]
  exact BitVec.setWidth_setWidth_of_le _ (by decide)

/-- Entry `h` of pair `p` of a block is its entry `2 p + h`. -/
theorem half_apply (w : IVec S16x2048x344x16 8) (o : Fin 5 → Nat) (h : Fin 2) (ho : o = ![0, 0, 0, 0, h.val]) (hs)
    (b : Fin 16) (s : Fin 2048) (k : Fin 344) (p : Fin 8) :
    shapeCast S16x2048x344x8 (extractStridedSlice S16x2048x344x8x1 o (shapeCast S16x2048x344x8x2 w shapeCasts_S16x2048x344x16_S16x2048x344x8x2) hs)
      shapeCasts_S16x2048x344x8x1_S16x2048x344x8 (ix4 b s k p) = w (ix4 b s k ⟨2 * p.val + h.val, by omega⟩) := by
  subst ho
  have h1 : Shape.reshapeEquiv shapeCasts_S16x2048x344x8x1_S16x2048x344x8 (ix4 b s k p) = ix5 b s k p (0 : Fin 1) := by
    refine Shape.reshapeEquiv_eq_of_rowMajor _ ?_
    rw [Shape.rowMajor_val_five, Shape.rowMajor_val_four]
    show (((b.val * 2048 + s.val) * 344 + k.val) * 8 + p.val) * 1 + 0 = ((b.val * 2048 + s.val) * 344 + k.val) * 8 + p.val
    omega
  have h2 : Shape.reshapeEquiv shapeCasts_S16x2048x344x16_S16x2048x344x8x2 (ix5 b s k p h) = ix4 b s k (⟨2 * p.val + h.val, by omega⟩ : Fin 16) := by
    refine Shape.reshapeEquiv_eq_of_rowMajor _ ?_
    rw [Shape.rowMajor_val_five, Shape.rowMajor_val_four]
    show ((b.val * 2048 + s.val) * 344 + k.val) * 16 + (2 * p.val + h.val) = (((b.val * 2048 + s.val) * 344 + k.val) * 8 + p.val) * 2 + h.val
    omega
  have h3 : ∀ y : IVec S16x2048x344x8x2 8, extractStridedSlice S16x2048x344x8x1 ![0, 0, 0, 0, h.val] y hs (ix5 b s k p (0 : Fin 1)) = y (ix5 b s k p h) := by
    intro y
    pointwise
  exact (congrArg _ h1).trans ((h3 _).trans (congrArg w h2))

/-- A byte of a row: the codes of two neighbours, the second one high. -/
theorem pay1_apply (w : IVec S16x2048x344x16 8) (b : Fin 16) (s : Fin 2048) (R : Fin 2752) :
    k0_pay1 w (ix3 b s R) = (w (ix4 b s ⟨R.val / 8, by omega⟩ ⟨2 * (R.val % 8) + 0, by omega⟩)
      ||| w (ix4 b s ⟨R.val / 8, by omega⟩ ⟨2 * (R.val % 8) + 1, by omega⟩) <<< 4) := by
  have h1 : Shape.reshapeEquiv shapeCasts_S16x2048x344x8_S16x2048x2752 (ix3 b s R) = ix4 b s (⟨R.val / 8, by omega⟩ : Fin 344) (⟨R.val % 8, by omega⟩ : Fin 8) := by
    refine Shape.reshapeEquiv_eq_of_rowMajor _ ?_
    rw [Shape.rowMajor_val_three, Shape.rowMajor_val_four]
    show ((b.val * 2048 + s.val) * 344 + R.val / 8) * 8 + R.val % 8 = (b.val * 2048 + s.val) * 2752 + R.val
    omega
  have lo := half_apply w ![0, 0, 0, 0, 0] 0 rfl slices_S16x2048x344x8x2_o0_0_0_0_0_S16x2048x344x8x1 b s (⟨R.val / 8, by omega⟩ : Fin 344) (⟨R.val % 8, by omega⟩ : Fin 8)
  have hi := half_apply w ![0, 0, 0, 0, 1] 1 rfl slices_S16x2048x344x8x2_o0_0_0_0_1_S16x2048x344x8x1 b s (⟨R.val / 8, by omega⟩ : Fin 344) (⟨R.val % 8, by omega⟩ : Fin 8)
  unfold k0_pay1
  generalize shapeCast S16x2048x344x8 (extractStridedSlice S16x2048x344x8x1 ![0, 0, 0, 0, 0] (shapeCast S16x2048x344x8x2 w shapeCasts_S16x2048x344x16_S16x2048x344x8x2) slices_S16x2048x344x8x2_o0_0_0_0_0_S16x2048x344x8x1) shapeCasts_S16x2048x344x8x1_S16x2048x344x8 = L at lo ⊢
  generalize shapeCast S16x2048x344x8 (extractStridedSlice S16x2048x344x8x1 ![0, 0, 0, 0, 1] (shapeCast S16x2048x344x8x2 w shapeCasts_S16x2048x344x16_S16x2048x344x8x2) slices_S16x2048x344x8x2_o0_0_0_0_1_S16x2048x344x8x1) shapeCasts_S16x2048x344x8x1_S16x2048x344x8 = H at hi ⊢
  show (ori L (shli H (broadcast S16x2048x344x8 4#8)) (Shape.reshapeEquiv shapeCasts_S16x2048x344x8_S16x2048x2752 (ix3 b s R))) = _
  rw [h1]
  show (L (ix4 b s (⟨R.val / 8, by omega⟩ : Fin 344) (⟨R.val % 8, by omega⟩ : Fin 8)) ||| IntOp.shli .vector (H (ix4 b s (⟨R.val / 8, by omega⟩ : Fin 344) (⟨R.val % 8, by omega⟩ : Fin 8))) 4#8) = _
  rw [lo, hi]
  rfl

/-- Two codes make a byte. -/
theorem byte_of_codes : ∀ lo hi : BitVec 4, (lo.setWidth 8 ||| hi.setWidth 8 <<< 4) = (hi ++ lo : BitVec (4 + 4)) := by
  decide +kernel

/-- The bytes of a token. -/
theorem bytes_apply (x : S16x2048x5504.Idx → EReal) (b : Fin 16) (s : Fin 2048) (R : Fin 2752) :
    Cert.ReferenceIdeal.Value.G1 (F := Ideal) x (ix3 b s R) = byte (tokenRow x b s) R := by
  unfold Cert.ReferenceIdeal.Value.G1
  rw [pay1_apply, codes_apply, codes_apply, byte_of_codes]
  unfold byte scaled
  have p0 : pos (⟨R.val / 8, by omega⟩ : Fin 344) (⟨2 * (R.val % 8) + 0, by omega⟩ : Fin 16) = (⟨2 * R.val, by omega⟩ : Fin 5504) := Fin.ext (by show 16 * (R.val / 8) + (2 * (R.val % 8) + 0) = 2 * R.val; omega)
  have p1 : pos (⟨R.val / 8, by omega⟩ : Fin 344) (⟨2 * (R.val % 8) + 1, by omega⟩ : Fin 16) = (⟨2 * R.val + 1, by omega⟩ : Fin 5504) := Fin.ext (by show 16 * (R.val / 8) + (2 * (R.val % 8) + 1) = 2 * R.val + 1; omega)
  have k0 : blockOf (⟨2 * R.val, by omega⟩ : Fin 5504) = (⟨R.val / 8, by omega⟩ : Fin 344) := Fin.ext (by show 2 * R.val / 16 = R.val / 8; omega)
  have k1 : blockOf (⟨2 * R.val + 1, by omega⟩ : Fin 5504) = (⟨R.val / 8, by omega⟩ : Fin 344) := Fin.ext (by show (2 * R.val + 1) / 16 = R.val / 8; omega)
  rw [p0, p1, k0, k1]

end Cert.Proof.Reference

end
-- ==== Proof.Algebraic.lean ====
/-
  The kernel and the reference return the same three arrays: both are, token by token, the same functions of the token's
  row.
-/
module

public import proofs.«01_k».proof.Defs
public import proofs.«01_k».proof.Proof.KernelValue
public import proofs.«01_k».proof.Proof.RefBytes

@[expose] public section

set_option maxRecDepth 16384

noncomputable section

namespace Cert.Proof

open Idealize.ShloMosaic Idealize.ShloMosaic.TcCoe Idealize.SL.Sem

variable (x : Cert.KernelIdeal.S16x2048x5504.Idx → EReal)

/-- The reference's bytes are the kernel's. -/
theorem bytes_eq : (Cert.ReferenceIdeal.Value.G1 (F := Ideal) x : Cert.ReferenceIdeal.S16x2048x2752.Idx → BitVec 8) = Value.res1 x :=
  funext fun i => (congrArg _ (eq_ix3 i)).trans (Reference.bytes_apply x (i 0) (i 1) (i 2))

/-- The reference's block scales are the kernel's. -/
theorem scales_eq : (Cert.ReferenceIdeal.Value.G2 (F := Ideal) x : Cert.ReferenceIdeal.S16x2048x344.Idx → EReal) = Value.res2 x :=
  funext fun i => (congrArg _ (eq_ix3 i)).trans (Reference.pay5_apply x (i 0) (i 1) (i 2))

/-- The reference's per-token scales are the kernel's. -/
theorem tokens_eq : (Cert.ReferenceIdeal.Value.G3 (F := Ideal) x : Cert.ReferenceIdeal.S16x2048.Idx → EReal) = Value.res3 x :=
  funext fun i => (congrArg _ (eq_ix2 i)).trans (Reference.pay4_apply x (i 0) (i 1))

/-- Over the extended reals, from equal arguments, the kernel and the reference end with equal results, all three. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Value.res1 (Value.argX m c), fun c => Value.res2 (Value.argX m c), fun c => Value.res3 (Value.argX m c),
    Value.kernel_run m g, ?_⟩
  refine (θ_run Cert.ReferenceIdeal.defs _ _).mono (fun r h c => ?_) (Cert.ReferenceIdeal.Value.run m' g')
  obtain ⟨h1, h2, h3, h4⟩ := h c
  rw [hargs c] at h1 h2 h3
  exact ⟨h1.trans (bytes_eq _), h2.trans (scales_eq _), h3.trans (tokens_eq _), h4⟩

end Cert.Proof

end
-- ==== Proof.lean ====
/-
  The proof of `Cert.Claim`: the frames of the kernel as printed, of its idealization and of the reference, that the
  idealization preserves the kernel, and that over the extended reals the kernel and the reference return the same three
  arrays.
-/
module

public import proofs.«01_k».proof.Defs
public import proofs.«01_k».proof.Proof.KernelBody
public import proofs.«01_k».proof.Proof.IdealBody
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import Idealize.ShloMosaic.Lib.Bf16Pair

@[expose] public section

noncomputable section

namespace Cert.Proof

open Idealize.ShloMosaic Idealize.SL.Sem

/-- The rewrites of the idealization, each an instance of its rule: the pairing of bf16 rows in words, and the named
    constant 1/2688. -/
theorem preserves : Cert.preserves_Kernel_KernelIdeal :=
  ⟨IdealRules.bf16_pair.statement _ _, IdealRules.bf16_pair.statement _ _,
    IdealRules.named_const.statement Cert.KernelIdeal.κ "inv_div" .f32 0x39C30C31#32 ((2688⁻¹ : ℝ) : EReal) rfl⟩

theorem claim : Cert.Claim := ⟨Cert.Kernel.Gen.facts, Cert.KernelIdeal.Gen.facts, Cert.ReferenceIdeal.Gen.facts,
  fun m g _ => Cert.Proof.Kernel.frame m g, fun m g _ => Cert.Proof.KernelIdeal.frame m g,
  fun m g _ => Cert.ReferenceIdeal.Gen.frame m g, preserves, algebraic⟩

end Cert.Proof

end
